-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_chunks0_ReferenceIdeal [hPre_chunks0_ReferenceIdeal : Cert.Pre_chunks0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks1_ReferenceIdeal [hPre_chunks1_ReferenceIdeal : Cert.Pre_chunks1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks2_ReferenceIdeal [hPre_chunks2_ReferenceIdeal : Cert.Pre_chunks2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks3_ReferenceIdeal [hPre_chunks3_ReferenceIdeal : Cert.Pre_chunks3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks4_ReferenceIdeal [hPre_chunks4_ReferenceIdeal : Cert.Pre_chunks4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks5_ReferenceIdeal [hPre_chunks5_ReferenceIdeal : Cert.Pre_chunks5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks6_ReferenceIdeal [hPre_chunks6_ReferenceIdeal : Cert.Pre_chunks6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks7_ReferenceIdeal [hPre_chunks7_ReferenceIdeal : Cert.Pre_chunks7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks8_ReferenceIdeal [hPre_chunks8_ReferenceIdeal : Cert.Pre_chunks8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks9_ReferenceIdeal [hPre_chunks9_ReferenceIdeal : Cert.Pre_chunks9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks10_ReferenceIdeal [hPre_chunks10_ReferenceIdeal : Cert.Pre_chunks10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks11_ReferenceIdeal [hPre_chunks11_ReferenceIdeal : Cert.Pre_chunks11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks12_ReferenceIdeal [hPre_chunks12_ReferenceIdeal : Cert.Pre_chunks12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks13_ReferenceIdeal [hPre_chunks13_ReferenceIdeal : Cert.Pre_chunks13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks14_ReferenceIdeal [hPre_chunks14_ReferenceIdeal : Cert.Pre_chunks14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks15_ReferenceIdeal [hPre_chunks15_ReferenceIdeal : Cert.Pre_chunks15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_chunks16_ReferenceIdeal [hPre_chunks16_ReferenceIdeal : Cert.Pre_chunks16_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks16_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_chunks0_Kernel : Cert.Pre_chunks0_Kernel.Facts] (m : (ℓ : Loc Cert.Kernel.nD Cert.Kernel.τ Cert.Kernel.sig) → Buf (Elt Bits) ℓ) : Prop :=
  ∀ c : Dev Cert.Kernel.nD,
    (Cert.Pre_chunks0_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks1_Kernel [hPre_chunks1_Kernel : Cert.Pre_chunks1_Kernel.Facts] (m : (ℓ : Loc Cert.Kernel.nD Cert.Kernel.τ Cert.Kernel.sig) → Buf (Elt Bits) ℓ) : Prop :=
  ∀ c : Dev Cert.Kernel.nD,
    (Cert.Pre_chunks1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks2_Kernel [hPre_chunks2_Kernel : Cert.Pre_chunks2_Kernel.Facts] (m : (ℓ : Loc Cert.Kernel.nD Cert.Kernel.τ Cert.Kernel.sig) → Buf (Elt Bits) ℓ) : Prop :=
  ∀ c : Dev Cert.Kernel.nD,
    (Cert.Pre_chunks2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks3_Kernel [hPre_chunks3_Kernel : Cert.Pre_chunks3_Kernel.Facts] (m : (ℓ : Loc Cert.Kernel.nD Cert.Kernel.τ Cert.Kernel.sig) → Buf (Elt Bits) ℓ) : Prop :=
  ∀ c : Dev Cert.Kernel.nD,
    (Cert.Pre_chunks3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks4_Kernel [hPre_chunks4_Kernel : Cert.Pre_chunks4_Kernel.Facts] (m : (ℓ : Loc Cert.Kernel.nD Cert.Kernel.τ Cert.Kernel.sig) → Buf (Elt Bits) ℓ) : Prop :=
  ∀ c : Dev Cert.Kernel.nD,
    (Cert.Pre_chunks4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks5_Kernel [hPre_chunks5_Kernel : Cert.Pre_chunks5_Kernel.Facts] (m : (ℓ : Loc Cert.Kernel.nD Cert.Kernel.τ Cert.Kernel.sig) → Buf (Elt Bits) ℓ) : Prop :=
  ∀ c : Dev Cert.Kernel.nD,
    (Cert.Pre_chunks5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks6_Kernel [hPre_chunks6_Kernel : Cert.Pre_chunks6_Kernel.Facts] (m : (ℓ : Loc Cert.Kernel.nD Cert.Kernel.τ Cert.Kernel.sig) → Buf (Elt Bits) ℓ) : Prop :=
  ∀ c : Dev Cert.Kernel.nD,
    (Cert.Pre_chunks6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks7_Kernel [hPre_chunks7_Kernel : Cert.Pre_chunks7_Kernel.Facts] (m : (ℓ : Loc Cert.Kernel.nD Cert.Kernel.τ Cert.Kernel.sig) → Buf (Elt Bits) ℓ) : Prop :=
  ∀ c : Dev Cert.Kernel.nD,
    (Cert.Pre_chunks7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks8_Kernel [hPre_chunks8_Kernel : Cert.Pre_chunks8_Kernel.Facts] (m : (ℓ : Loc Cert.Kernel.nD Cert.Kernel.τ Cert.Kernel.sig) → Buf (Elt Bits) ℓ) : Prop :=
  ∀ c : Dev Cert.Kernel.nD,
    (Cert.Pre_chunks8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks9_Kernel [hPre_chunks9_Kernel : Cert.Pre_chunks9_Kernel.Facts] (m : (ℓ : Loc Cert.Kernel.nD Cert.Kernel.τ Cert.Kernel.sig) → Buf (Elt Bits) ℓ) : Prop :=
  ∀ c : Dev Cert.Kernel.nD,
    (Cert.Pre_chunks9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks10_Kernel [hPre_chunks10_Kernel : Cert.Pre_chunks10_Kernel.Facts] (m : (ℓ : Loc Cert.Kernel.nD Cert.Kernel.τ Cert.Kernel.sig) → Buf (Elt Bits) ℓ) : Prop :=
  ∀ c : Dev Cert.Kernel.nD,
    (Cert.Pre_chunks10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks11_Kernel [hPre_chunks11_Kernel : Cert.Pre_chunks11_Kernel.Facts] (m : (ℓ : Loc Cert.Kernel.nD Cert.Kernel.τ Cert.Kernel.sig) → Buf (Elt Bits) ℓ) : Prop :=
  ∀ c : Dev Cert.Kernel.nD,
    (Cert.Pre_chunks11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks12_Kernel [hPre_chunks12_Kernel : Cert.Pre_chunks12_Kernel.Facts] (m : (ℓ : Loc Cert.Kernel.nD Cert.Kernel.τ Cert.Kernel.sig) → Buf (Elt Bits) ℓ) : Prop :=
  ∀ c : Dev Cert.Kernel.nD,
    (Cert.Pre_chunks12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks13_Kernel [hPre_chunks13_Kernel : Cert.Pre_chunks13_Kernel.Facts] (m : (ℓ : Loc Cert.Kernel.nD Cert.Kernel.τ Cert.Kernel.sig) → Buf (Elt Bits) ℓ) : Prop :=
  ∀ c : Dev Cert.Kernel.nD,
    (Cert.Pre_chunks13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks14_Kernel [hPre_chunks14_Kernel : Cert.Pre_chunks14_Kernel.Facts] (m : (ℓ : Loc Cert.Kernel.nD Cert.Kernel.τ Cert.Kernel.sig) → Buf (Elt Bits) ℓ) : Prop :=
  ∀ c : Dev Cert.Kernel.nD,
    (Cert.Pre_chunks14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks15_Kernel [hPre_chunks15_Kernel : Cert.Pre_chunks15_Kernel.Facts] (m : (ℓ : Loc Cert.Kernel.nD Cert.Kernel.τ Cert.Kernel.sig) → Buf (Elt Bits) ℓ) : Prop :=
  ∀ c : Dev Cert.Kernel.nD,
    (Cert.Pre_chunks15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_chunks16_Kernel [hPre_chunks16_Kernel : Cert.Pre_chunks16_Kernel.Facts] (m : (ℓ : Loc Cert.Kernel.nD Cert.Kernel.τ Cert.Kernel.sig) → Buf (Elt Bits) ℓ) : Prop :=
  ∀ c : Dev Cert.Kernel.nD,
    (Cert.Pre_chunks16_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_chunks0_Kernel : Cert.Pre_chunks0_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks0_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks1_Kernel [hPre_chunks1_Kernel : Cert.Pre_chunks1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks2_Kernel [hPre_chunks2_Kernel : Cert.Pre_chunks2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks3_Kernel [hPre_chunks3_Kernel : Cert.Pre_chunks3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks4_Kernel [hPre_chunks4_Kernel : Cert.Pre_chunks4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks5_Kernel [hPre_chunks5_Kernel : Cert.Pre_chunks5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks6_Kernel [hPre_chunks6_Kernel : Cert.Pre_chunks6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks7_Kernel [hPre_chunks7_Kernel : Cert.Pre_chunks7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks8_Kernel [hPre_chunks8_Kernel : Cert.Pre_chunks8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks9_Kernel [hPre_chunks9_Kernel : Cert.Pre_chunks9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks10_Kernel [hPre_chunks10_Kernel : Cert.Pre_chunks10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks11_Kernel [hPre_chunks11_Kernel : Cert.Pre_chunks11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks12_Kernel [hPre_chunks12_Kernel : Cert.Pre_chunks12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks13_Kernel [hPre_chunks13_Kernel : Cert.Pre_chunks13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks14_Kernel [hPre_chunks14_Kernel : Cert.Pre_chunks14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks15_Kernel [hPre_chunks15_Kernel : Cert.Pre_chunks15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_chunks16_Kernel [hPre_chunks16_Kernel : Cert.Pre_chunks16_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_chunks16_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks0_ReferenceIdeal [hReferenceIdeal : Cert.ReferenceIdeal.Facts] [hPre_chunks0_ReferenceIdeal : Cert.Pre_chunks0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks1_ReferenceIdeal [hReferenceIdeal : Cert.ReferenceIdeal.Facts] [hPre_chunks1_ReferenceIdeal : Cert.Pre_chunks1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks2_ReferenceIdeal [hReferenceIdeal : Cert.ReferenceIdeal.Facts] [hPre_chunks2_ReferenceIdeal : Cert.Pre_chunks2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks3_ReferenceIdeal [hReferenceIdeal : Cert.ReferenceIdeal.Facts] [hPre_chunks3_ReferenceIdeal : Cert.Pre_chunks3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks4_ReferenceIdeal [hReferenceIdeal : Cert.ReferenceIdeal.Facts] [hPre_chunks4_ReferenceIdeal : Cert.Pre_chunks4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks5_ReferenceIdeal [hReferenceIdeal : Cert.ReferenceIdeal.Facts] [hPre_chunks5_ReferenceIdeal : Cert.Pre_chunks5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks6_ReferenceIdeal [hReferenceIdeal : Cert.ReferenceIdeal.Facts] [hPre_chunks6_ReferenceIdeal : Cert.Pre_chunks6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks7_ReferenceIdeal [hReferenceIdeal : Cert.ReferenceIdeal.Facts] [hPre_chunks7_ReferenceIdeal : Cert.Pre_chunks7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks8_ReferenceIdeal [hReferenceIdeal : Cert.ReferenceIdeal.Facts] [hPre_chunks8_ReferenceIdeal : Cert.Pre_chunks8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks9_ReferenceIdeal [hReferenceIdeal : Cert.ReferenceIdeal.Facts] [hPre_chunks9_ReferenceIdeal : Cert.Pre_chunks9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks10_ReferenceIdeal [hReferenceIdeal : Cert.ReferenceIdeal.Facts] [hPre_chunks10_ReferenceIdeal : Cert.Pre_chunks10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks11_ReferenceIdeal [hReferenceIdeal : Cert.ReferenceIdeal.Facts] [hPre_chunks11_ReferenceIdeal : Cert.Pre_chunks11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks12_ReferenceIdeal [hReferenceIdeal : Cert.ReferenceIdeal.Facts] [hPre_chunks12_ReferenceIdeal : Cert.Pre_chunks12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks13_ReferenceIdeal [hReferenceIdeal : Cert.ReferenceIdeal.Facts] [hPre_chunks13_ReferenceIdeal : Cert.Pre_chunks13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks14_ReferenceIdeal [hReferenceIdeal : Cert.ReferenceIdeal.Facts] [hPre_chunks14_ReferenceIdeal : Cert.Pre_chunks14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks15_ReferenceIdeal [hReferenceIdeal : Cert.ReferenceIdeal.Facts] [hPre_chunks15_ReferenceIdeal : Cert.Pre_chunks15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_chunks16_ReferenceIdeal [hReferenceIdeal : Cert.ReferenceIdeal.Facts] [hPre_chunks16_ReferenceIdeal : Cert.Pre_chunks16_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks16_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_chunks0_Kernel : Cert.Pre_chunks0_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks1_Kernel [hKernel : Cert.Kernel.Facts] [hPre_chunks1_Kernel : Cert.Pre_chunks1_Kernel.Facts] : Prop :=
  ∀ (m : (ℓ : Loc Cert.Kernel.nD Cert.Kernel.τ Cert.Kernel.sig) → Buf (Elt Bits) ℓ) (g : Dev Cert.Kernel.nD → PrngReg), Pre_Kernel_chunks1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks2_Kernel [hKernel : Cert.Kernel.Facts] [hPre_chunks2_Kernel : Cert.Pre_chunks2_Kernel.Facts] : Prop :=
  ∀ (m : (ℓ : Loc Cert.Kernel.nD Cert.Kernel.τ Cert.Kernel.sig) → Buf (Elt Bits) ℓ) (g : Dev Cert.Kernel.nD → PrngReg), Pre_Kernel_chunks2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks3_Kernel [hKernel : Cert.Kernel.Facts] [hPre_chunks3_Kernel : Cert.Pre_chunks3_Kernel.Facts] : Prop :=
  ∀ (m : (ℓ : Loc Cert.Kernel.nD Cert.Kernel.τ Cert.Kernel.sig) → Buf (Elt Bits) ℓ) (g : Dev Cert.Kernel.nD → PrngReg), Pre_Kernel_chunks3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks4_Kernel [hKernel : Cert.Kernel.Facts] [hPre_chunks4_Kernel : Cert.Pre_chunks4_Kernel.Facts] : Prop :=
  ∀ (m : (ℓ : Loc Cert.Kernel.nD Cert.Kernel.τ Cert.Kernel.sig) → Buf (Elt Bits) ℓ) (g : Dev Cert.Kernel.nD → PrngReg), Pre_Kernel_chunks4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks5_Kernel [hKernel : Cert.Kernel.Facts] [hPre_chunks5_Kernel : Cert.Pre_chunks5_Kernel.Facts] : Prop :=
  ∀ (m : (ℓ : Loc Cert.Kernel.nD Cert.Kernel.τ Cert.Kernel.sig) → Buf (Elt Bits) ℓ) (g : Dev Cert.Kernel.nD → PrngReg), Pre_Kernel_chunks5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks6_Kernel [hKernel : Cert.Kernel.Facts] [hPre_chunks6_Kernel : Cert.Pre_chunks6_Kernel.Facts] : Prop :=
  ∀ (m : (ℓ : Loc Cert.Kernel.nD Cert.Kernel.τ Cert.Kernel.sig) → Buf (Elt Bits) ℓ) (g : Dev Cert.Kernel.nD → PrngReg), Pre_Kernel_chunks6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks7_Kernel [hKernel : Cert.Kernel.Facts] [hPre_chunks7_Kernel : Cert.Pre_chunks7_Kernel.Facts] : Prop :=
  ∀ (m : (ℓ : Loc Cert.Kernel.nD Cert.Kernel.τ Cert.Kernel.sig) → Buf (Elt Bits) ℓ) (g : Dev Cert.Kernel.nD → PrngReg), Pre_Kernel_chunks7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks8_Kernel [hKernel : Cert.Kernel.Facts] [hPre_chunks8_Kernel : Cert.Pre_chunks8_Kernel.Facts] : Prop :=
  ∀ (m : (ℓ : Loc Cert.Kernel.nD Cert.Kernel.τ Cert.Kernel.sig) → Buf (Elt Bits) ℓ) (g : Dev Cert.Kernel.nD → PrngReg), Pre_Kernel_chunks8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks9_Kernel [hKernel : Cert.Kernel.Facts] [hPre_chunks9_Kernel : Cert.Pre_chunks9_Kernel.Facts] : Prop :=
  ∀ (m : (ℓ : Loc Cert.Kernel.nD Cert.Kernel.τ Cert.Kernel.sig) → Buf (Elt Bits) ℓ) (g : Dev Cert.Kernel.nD → PrngReg), Pre_Kernel_chunks9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks10_Kernel [hKernel : Cert.Kernel.Facts] [hPre_chunks10_Kernel : Cert.Pre_chunks10_Kernel.Facts] : Prop :=
  ∀ (m : (ℓ : Loc Cert.Kernel.nD Cert.Kernel.τ Cert.Kernel.sig) → Buf (Elt Bits) ℓ) (g : Dev Cert.Kernel.nD → PrngReg), Pre_Kernel_chunks10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks11_Kernel [hKernel : Cert.Kernel.Facts] [hPre_chunks11_Kernel : Cert.Pre_chunks11_Kernel.Facts] : Prop :=
  ∀ (m : (ℓ : Loc Cert.Kernel.nD Cert.Kernel.τ Cert.Kernel.sig) → Buf (Elt Bits) ℓ) (g : Dev Cert.Kernel.nD → PrngReg), Pre_Kernel_chunks11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks12_Kernel [hKernel : Cert.Kernel.Facts] [hPre_chunks12_Kernel : Cert.Pre_chunks12_Kernel.Facts] : Prop :=
  ∀ (m : (ℓ : Loc Cert.Kernel.nD Cert.Kernel.τ Cert.Kernel.sig) → Buf (Elt Bits) ℓ) (g : Dev Cert.Kernel.nD → PrngReg), Pre_Kernel_chunks12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks13_Kernel [hKernel : Cert.Kernel.Facts] [hPre_chunks13_Kernel : Cert.Pre_chunks13_Kernel.Facts] : Prop :=
  ∀ (m : (ℓ : Loc Cert.Kernel.nD Cert.Kernel.τ Cert.Kernel.sig) → Buf (Elt Bits) ℓ) (g : Dev Cert.Kernel.nD → PrngReg), Pre_Kernel_chunks13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks14_Kernel [hKernel : Cert.Kernel.Facts] [hPre_chunks14_Kernel : Cert.Pre_chunks14_Kernel.Facts] : Prop :=
  ∀ (m : (ℓ : Loc Cert.Kernel.nD Cert.Kernel.τ Cert.Kernel.sig) → Buf (Elt Bits) ℓ) (g : Dev Cert.Kernel.nD → PrngReg), Pre_Kernel_chunks14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks15_Kernel [hKernel : Cert.Kernel.Facts] [hPre_chunks15_Kernel : Cert.Pre_chunks15_Kernel.Facts] : Prop :=
  ∀ (m : (ℓ : Loc Cert.Kernel.nD Cert.Kernel.τ Cert.Kernel.sig) → Buf (Elt Bits) ℓ) (g : Dev Cert.Kernel.nD → PrngReg), Pre_Kernel_chunks15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_chunks16_Kernel [hKernel : Cert.Kernel.Facts] [hPre_chunks16_Kernel : Cert.Pre_chunks16_Kernel.Facts] : Prop :=
  ∀ (m : (ℓ : Loc Cert.Kernel.nD Cert.Kernel.τ Cert.Kernel.sig) → Buf (Elt Bits) ℓ) (g : Dev Cert.Kernel.nD → PrngReg), Pre_Kernel_chunks16_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_chunks0_Kernel : Cert.Pre_chunks0_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks1_Kernel [hKernelIdeal : Cert.KernelIdeal.Facts] [hPre_chunks1_Kernel : Cert.Pre_chunks1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks2_Kernel [hKernelIdeal : Cert.KernelIdeal.Facts] [hPre_chunks2_Kernel : Cert.Pre_chunks2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks3_Kernel [hKernelIdeal : Cert.KernelIdeal.Facts] [hPre_chunks3_Kernel : Cert.Pre_chunks3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks4_Kernel [hKernelIdeal : Cert.KernelIdeal.Facts] [hPre_chunks4_Kernel : Cert.Pre_chunks4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks5_Kernel [hKernelIdeal : Cert.KernelIdeal.Facts] [hPre_chunks5_Kernel : Cert.Pre_chunks5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks6_Kernel [hKernelIdeal : Cert.KernelIdeal.Facts] [hPre_chunks6_Kernel : Cert.Pre_chunks6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks7_Kernel [hKernelIdeal : Cert.KernelIdeal.Facts] [hPre_chunks7_Kernel : Cert.Pre_chunks7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks8_Kernel [hKernelIdeal : Cert.KernelIdeal.Facts] [hPre_chunks8_Kernel : Cert.Pre_chunks8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks9_Kernel [hKernelIdeal : Cert.KernelIdeal.Facts] [hPre_chunks9_Kernel : Cert.Pre_chunks9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks10_Kernel [hKernelIdeal : Cert.KernelIdeal.Facts] [hPre_chunks10_Kernel : Cert.Pre_chunks10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks11_Kernel [hKernelIdeal : Cert.KernelIdeal.Facts] [hPre_chunks11_Kernel : Cert.Pre_chunks11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks12_Kernel [hKernelIdeal : Cert.KernelIdeal.Facts] [hPre_chunks12_Kernel : Cert.Pre_chunks12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks13_Kernel [hKernelIdeal : Cert.KernelIdeal.Facts] [hPre_chunks13_Kernel : Cert.Pre_chunks13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks14_Kernel [hKernelIdeal : Cert.KernelIdeal.Facts] [hPre_chunks14_Kernel : Cert.Pre_chunks14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks15_Kernel [hKernelIdeal : Cert.KernelIdeal.Facts] [hPre_chunks15_Kernel : Cert.Pre_chunks15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_chunks16_Kernel [hKernelIdeal : Cert.KernelIdeal.Facts] [hPre_chunks16_Kernel : Cert.Pre_chunks16_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks16_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chunks0_Kernel : Cert.Pre_chunks0_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks1_Kernel [hKernelIdeal : Cert.KernelIdeal.Facts] [hReferenceIdeal : Cert.ReferenceIdeal.Facts] [hPre_chunks1_Kernel : Cert.Pre_chunks1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks1_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks2_Kernel [hKernelIdeal : Cert.KernelIdeal.Facts] [hReferenceIdeal : Cert.ReferenceIdeal.Facts] [hPre_chunks2_Kernel : Cert.Pre_chunks2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks2_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks3_Kernel [hKernelIdeal : Cert.KernelIdeal.Facts] [hReferenceIdeal : Cert.ReferenceIdeal.Facts] [hPre_chunks3_Kernel : Cert.Pre_chunks3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks3_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks4_Kernel [hKernelIdeal : Cert.KernelIdeal.Facts] [hReferenceIdeal : Cert.ReferenceIdeal.Facts] [hPre_chunks4_Kernel : Cert.Pre_chunks4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks4_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks5_Kernel [hKernelIdeal : Cert.KernelIdeal.Facts] [hReferenceIdeal : Cert.ReferenceIdeal.Facts] [hPre_chunks5_Kernel : Cert.Pre_chunks5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks5_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks6_Kernel [hKernelIdeal : Cert.KernelIdeal.Facts] [hReferenceIdeal : Cert.ReferenceIdeal.Facts] [hPre_chunks6_Kernel : Cert.Pre_chunks6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks6_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks7_Kernel [hKernelIdeal : Cert.KernelIdeal.Facts] [hReferenceIdeal : Cert.ReferenceIdeal.Facts] [hPre_chunks7_Kernel : Cert.Pre_chunks7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks7_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks8_Kernel [hKernelIdeal : Cert.KernelIdeal.Facts] [hReferenceIdeal : Cert.ReferenceIdeal.Facts] [hPre_chunks8_Kernel : Cert.Pre_chunks8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks8_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks9_Kernel [hKernelIdeal : Cert.KernelIdeal.Facts] [hReferenceIdeal : Cert.ReferenceIdeal.Facts] [hPre_chunks9_Kernel : Cert.Pre_chunks9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks9_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks10_Kernel [hKernelIdeal : Cert.KernelIdeal.Facts] [hReferenceIdeal : Cert.ReferenceIdeal.Facts] [hPre_chunks10_Kernel : Cert.Pre_chunks10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks10_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks11_Kernel [hKernelIdeal : Cert.KernelIdeal.Facts] [hReferenceIdeal : Cert.ReferenceIdeal.Facts] [hPre_chunks11_Kernel : Cert.Pre_chunks11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks11_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks12_Kernel [hKernelIdeal : Cert.KernelIdeal.Facts] [hReferenceIdeal : Cert.ReferenceIdeal.Facts] [hPre_chunks12_Kernel : Cert.Pre_chunks12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks12_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks13_Kernel [hKernelIdeal : Cert.KernelIdeal.Facts] [hReferenceIdeal : Cert.ReferenceIdeal.Facts] [hPre_chunks13_Kernel : Cert.Pre_chunks13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks13_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks14_Kernel [hKernelIdeal : Cert.KernelIdeal.Facts] [hReferenceIdeal : Cert.ReferenceIdeal.Facts] [hPre_chunks14_Kernel : Cert.Pre_chunks14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks14_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks15_Kernel [hKernelIdeal : Cert.KernelIdeal.Facts] [hReferenceIdeal : Cert.ReferenceIdeal.Facts] [hPre_chunks15_Kernel : Cert.Pre_chunks15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks15_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_chunks16_Kernel [hKernelIdeal : Cert.KernelIdeal.Facts] [hReferenceIdeal : Cert.ReferenceIdeal.Facts] [hPre_chunks16_Kernel : Cert.Pre_chunks16_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks16_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.blockN ⟨2, ![1024, 512]⟩ ⟨2, ![2048, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_chunks0_ReferenceIdeal : Cert.Pre_chunks0_ReferenceIdeal.Facts) (hPre_chunks1_ReferenceIdeal : Cert.Pre_chunks1_ReferenceIdeal.Facts) (hPre_chunks2_ReferenceIdeal : Cert.Pre_chunks2_ReferenceIdeal.Facts) (hPre_chunks3_ReferenceIdeal : Cert.Pre_chunks3_ReferenceIdeal.Facts) (hPre_chunks4_ReferenceIdeal : Cert.Pre_chunks4_ReferenceIdeal.Facts) (hPre_chunks5_ReferenceIdeal : Cert.Pre_chunks5_ReferenceIdeal.Facts) (hPre_chunks6_ReferenceIdeal : Cert.Pre_chunks6_ReferenceIdeal.Facts) (hPre_chunks7_ReferenceIdeal : Cert.Pre_chunks7_ReferenceIdeal.Facts) (hPre_chunks8_ReferenceIdeal : Cert.Pre_chunks8_ReferenceIdeal.Facts) (hPre_chunks9_ReferenceIdeal : Cert.Pre_chunks9_ReferenceIdeal.Facts) (hPre_chunks10_ReferenceIdeal : Cert.Pre_chunks10_ReferenceIdeal.Facts) (hPre_chunks11_ReferenceIdeal : Cert.Pre_chunks11_ReferenceIdeal.Facts) (hPre_chunks12_ReferenceIdeal : Cert.Pre_chunks12_ReferenceIdeal.Facts) (hPre_chunks13_ReferenceIdeal : Cert.Pre_chunks13_ReferenceIdeal.Facts) (hPre_chunks14_ReferenceIdeal : Cert.Pre_chunks14_ReferenceIdeal.Facts) (hPre_chunks15_ReferenceIdeal : Cert.Pre_chunks15_ReferenceIdeal.Facts) (hPre_chunks16_ReferenceIdeal : Cert.Pre_chunks16_ReferenceIdeal.Facts) (hPre_chunks0_Kernel : Cert.Pre_chunks0_Kernel.Facts) (hPre_chunks1_Kernel : Cert.Pre_chunks1_Kernel.Facts) (hPre_chunks2_Kernel : Cert.Pre_chunks2_Kernel.Facts) (hPre_chunks3_Kernel : Cert.Pre_chunks3_Kernel.Facts) (hPre_chunks4_Kernel : Cert.Pre_chunks4_Kernel.Facts) (hPre_chunks5_Kernel : Cert.Pre_chunks5_Kernel.Facts) (hPre_chunks6_Kernel : Cert.Pre_chunks6_Kernel.Facts) (hPre_chunks7_Kernel : Cert.Pre_chunks7_Kernel.Facts) (hPre_chunks8_Kernel : Cert.Pre_chunks8_Kernel.Facts) (hPre_chunks9_Kernel : Cert.Pre_chunks9_Kernel.Facts) (hPre_chunks10_Kernel : Cert.Pre_chunks10_Kernel.Facts) (hPre_chunks11_Kernel : Cert.Pre_chunks11_Kernel.Facts) (hPre_chunks12_Kernel : Cert.Pre_chunks12_Kernel.Facts) (hPre_chunks13_Kernel : Cert.Pre_chunks13_Kernel.Facts) (hPre_chunks14_Kernel : Cert.Pre_chunks14_Kernel.Facts) (hPre_chunks15_Kernel : Cert.Pre_chunks15_Kernel.Facts) (hPre_chunks16_Kernel : Cert.Pre_chunks16_Kernel.Facts),
    quiescent_ReferenceIdeal (hReferenceIdeal := hReferenceIdeal)
    ∧ quiescent_ReferenceIdeal_pre_chunks0_ReferenceIdeal (hReferenceIdeal := hReferenceIdeal) (hPre_chunks0_ReferenceIdeal := hPre_chunks0_ReferenceIdeal)
    ∧ quiescent_ReferenceIdeal_pre_chunks1_ReferenceIdeal (hReferenceIdeal := hReferenceIdeal) (hPre_chunks1_ReferenceIdeal := hPre_chunks1_ReferenceIdeal)
    ∧ quiescent_ReferenceIdeal_pre_chunks2_ReferenceIdeal (hReferenceIdeal := hReferenceIdeal) (hPre_chunks2_ReferenceIdeal := hPre_chunks2_ReferenceIdeal)
    ∧ quiescent_ReferenceIdeal_pre_chunks3_ReferenceIdeal (hReferenceIdeal := hReferenceIdeal) (hPre_chunks3_ReferenceIdeal := hPre_chunks3_ReferenceIdeal)
    ∧ quiescent_ReferenceIdeal_pre_chunks4_ReferenceIdeal (hReferenceIdeal := hReferenceIdeal) (hPre_chunks4_ReferenceIdeal := hPre_chunks4_ReferenceIdeal)
    ∧ quiescent_ReferenceIdeal_pre_chunks5_ReferenceIdeal (hReferenceIdeal := hReferenceIdeal) (hPre_chunks5_ReferenceIdeal := hPre_chunks5_ReferenceIdeal)
    ∧ quiescent_ReferenceIdeal_pre_chunks6_ReferenceIdeal (hReferenceIdeal := hReferenceIdeal) (hPre_chunks6_ReferenceIdeal := hPre_chunks6_ReferenceIdeal)
    ∧ quiescent_ReferenceIdeal_pre_chunks7_ReferenceIdeal (hReferenceIdeal := hReferenceIdeal) (hPre_chunks7_ReferenceIdeal := hPre_chunks7_ReferenceIdeal)
    ∧ quiescent_ReferenceIdeal_pre_chunks8_ReferenceIdeal (hReferenceIdeal := hReferenceIdeal) (hPre_chunks8_ReferenceIdeal := hPre_chunks8_ReferenceIdeal)
    ∧ quiescent_ReferenceIdeal_pre_chunks9_ReferenceIdeal (hReferenceIdeal := hReferenceIdeal) (hPre_chunks9_ReferenceIdeal := hPre_chunks9_ReferenceIdeal)
    ∧ quiescent_ReferenceIdeal_pre_chunks10_ReferenceIdeal (hReferenceIdeal := hReferenceIdeal) (hPre_chunks10_ReferenceIdeal := hPre_chunks10_ReferenceIdeal)
    ∧ quiescent_ReferenceIdeal_pre_chunks11_ReferenceIdeal (hReferenceIdeal := hReferenceIdeal) (hPre_chunks11_ReferenceIdeal := hPre_chunks11_ReferenceIdeal)
    ∧ quiescent_ReferenceIdeal_pre_chunks12_ReferenceIdeal (hReferenceIdeal := hReferenceIdeal) (hPre_chunks12_ReferenceIdeal := hPre_chunks12_ReferenceIdeal)
    ∧ quiescent_ReferenceIdeal_pre_chunks13_ReferenceIdeal (hReferenceIdeal := hReferenceIdeal) (hPre_chunks13_ReferenceIdeal := hPre_chunks13_ReferenceIdeal)
    ∧ quiescent_ReferenceIdeal_pre_chunks14_ReferenceIdeal (hReferenceIdeal := hReferenceIdeal) (hPre_chunks14_ReferenceIdeal := hPre_chunks14_ReferenceIdeal)
    ∧ quiescent_ReferenceIdeal_pre_chunks15_ReferenceIdeal (hReferenceIdeal := hReferenceIdeal) (hPre_chunks15_ReferenceIdeal := hPre_chunks15_ReferenceIdeal)
    ∧ quiescent_ReferenceIdeal_pre_chunks16_ReferenceIdeal (hReferenceIdeal := hReferenceIdeal) (hPre_chunks16_ReferenceIdeal := hPre_chunks16_ReferenceIdeal)
    ∧ quiescent_Kernel (hKernel := hKernel) (hPre_chunks0_Kernel := hPre_chunks0_Kernel)
    ∧ quiescent_Kernel_pre_chunks1_Kernel (hKernel := hKernel) (hPre_chunks1_Kernel := hPre_chunks1_Kernel)
    ∧ quiescent_Kernel_pre_chunks2_Kernel (hKernel := hKernel) (hPre_chunks2_Kernel := hPre_chunks2_Kernel)
    ∧ quiescent_Kernel_pre_chunks3_Kernel (hKernel := hKernel) (hPre_chunks3_Kernel := hPre_chunks3_Kernel)
    ∧ quiescent_Kernel_pre_chunks4_Kernel (hKernel := hKernel) (hPre_chunks4_Kernel := hPre_chunks4_Kernel)
    ∧ quiescent_Kernel_pre_chunks5_Kernel (hKernel := hKernel) (hPre_chunks5_Kernel := hPre_chunks5_Kernel)
    ∧ quiescent_Kernel_pre_chunks6_Kernel (hKernel := hKernel) (hPre_chunks6_Kernel := hPre_chunks6_Kernel)
    ∧ quiescent_Kernel_pre_chunks7_Kernel (hKernel := hKernel) (hPre_chunks7_Kernel := hPre_chunks7_Kernel)
    ∧ quiescent_Kernel_pre_chunks8_Kernel (hKernel := hKernel) (hPre_chunks8_Kernel := hPre_chunks8_Kernel)
    ∧ quiescent_Kernel_pre_chunks9_Kernel (hKernel := hKernel) (hPre_chunks9_Kernel := hPre_chunks9_Kernel)
    ∧ quiescent_Kernel_pre_chunks10_Kernel (hKernel := hKernel) (hPre_chunks10_Kernel := hPre_chunks10_Kernel)
    ∧ quiescent_Kernel_pre_chunks11_Kernel (hKernel := hKernel) (hPre_chunks11_Kernel := hPre_chunks11_Kernel)
    ∧ quiescent_Kernel_pre_chunks12_Kernel (hKernel := hKernel) (hPre_chunks12_Kernel := hPre_chunks12_Kernel)
    ∧ quiescent_Kernel_pre_chunks13_Kernel (hKernel := hKernel) (hPre_chunks13_Kernel := hPre_chunks13_Kernel)
    ∧ quiescent_Kernel_pre_chunks14_Kernel (hKernel := hKernel) (hPre_chunks14_Kernel := hPre_chunks14_Kernel)
    ∧ quiescent_Kernel_pre_chunks15_Kernel (hKernel := hKernel) (hPre_chunks15_Kernel := hPre_chunks15_Kernel)
    ∧ quiescent_Kernel_pre_chunks16_Kernel (hKernel := hKernel) (hPre_chunks16_Kernel := hPre_chunks16_Kernel)
    ∧ quiescent_KernelIdeal (hKernelIdeal := hKernelIdeal) (hPre_chunks0_Kernel := hPre_chunks0_Kernel)
    ∧ quiescent_KernelIdeal_pre_chunks1_Kernel (hKernelIdeal := hKernelIdeal) (hPre_chunks1_Kernel := hPre_chunks1_Kernel)
    ∧ quiescent_KernelIdeal_pre_chunks2_Kernel (hKernelIdeal := hKernelIdeal) (hPre_chunks2_Kernel := hPre_chunks2_Kernel)
    ∧ quiescent_KernelIdeal_pre_chunks3_Kernel (hKernelIdeal := hKernelIdeal) (hPre_chunks3_Kernel := hPre_chunks3_Kernel)
    ∧ quiescent_KernelIdeal_pre_chunks4_Kernel (hKernelIdeal := hKernelIdeal) (hPre_chunks4_Kernel := hPre_chunks4_Kernel)
    ∧ quiescent_KernelIdeal_pre_chunks5_Kernel (hKernelIdeal := hKernelIdeal) (hPre_chunks5_Kernel := hPre_chunks5_Kernel)
    ∧ quiescent_KernelIdeal_pre_chunks6_Kernel (hKernelIdeal := hKernelIdeal) (hPre_chunks6_Kernel := hPre_chunks6_Kernel)
    ∧ quiescent_KernelIdeal_pre_chunks7_Kernel (hKernelIdeal := hKernelIdeal) (hPre_chunks7_Kernel := hPre_chunks7_Kernel)
    ∧ quiescent_KernelIdeal_pre_chunks8_Kernel (hKernelIdeal := hKernelIdeal) (hPre_chunks8_Kernel := hPre_chunks8_Kernel)
    ∧ quiescent_KernelIdeal_pre_chunks9_Kernel (hKernelIdeal := hKernelIdeal) (hPre_chunks9_Kernel := hPre_chunks9_Kernel)
    ∧ quiescent_KernelIdeal_pre_chunks10_Kernel (hKernelIdeal := hKernelIdeal) (hPre_chunks10_Kernel := hPre_chunks10_Kernel)
    ∧ quiescent_KernelIdeal_pre_chunks11_Kernel (hKernelIdeal := hKernelIdeal) (hPre_chunks11_Kernel := hPre_chunks11_Kernel)
    ∧ quiescent_KernelIdeal_pre_chunks12_Kernel (hKernelIdeal := hKernelIdeal) (hPre_chunks12_Kernel := hPre_chunks12_Kernel)
    ∧ quiescent_KernelIdeal_pre_chunks13_Kernel (hKernelIdeal := hKernelIdeal) (hPre_chunks13_Kernel := hPre_chunks13_Kernel)
    ∧ quiescent_KernelIdeal_pre_chunks14_Kernel (hKernelIdeal := hKernelIdeal) (hPre_chunks14_Kernel := hPre_chunks14_Kernel)
    ∧ quiescent_KernelIdeal_pre_chunks15_Kernel (hKernelIdeal := hKernelIdeal) (hPre_chunks15_Kernel := hPre_chunks15_Kernel)
    ∧ quiescent_KernelIdeal_pre_chunks16_Kernel (hKernelIdeal := hKernelIdeal) (hPre_chunks16_Kernel := hPre_chunks16_Kernel)
    ∧ preserves_Kernel_KernelIdeal
    ∧ algebraic_KernelIdeal_ReferenceIdeal (hKernelIdeal := hKernelIdeal) (hReferenceIdeal := hReferenceIdeal) (hPre_chunks0_Kernel := hPre_chunks0_Kernel)
    ∧ algebraic_KernelIdeal_ReferenceIdeal_pre_chunks1_Kernel (hKernelIdeal := hKernelIdeal) (hReferenceIdeal := hReferenceIdeal) (hPre_chunks1_Kernel := hPre_chunks1_Kernel)
    ∧ algebraic_KernelIdeal_ReferenceIdeal_pre_chunks2_Kernel (hKernelIdeal := hKernelIdeal) (hReferenceIdeal := hReferenceIdeal) (hPre_chunks2_Kernel := hPre_chunks2_Kernel)
    ∧ algebraic_KernelIdeal_ReferenceIdeal_pre_chunks3_Kernel (hKernelIdeal := hKernelIdeal) (hReferenceIdeal := hReferenceIdeal) (hPre_chunks3_Kernel := hPre_chunks3_Kernel)
    ∧ algebraic_KernelIdeal_ReferenceIdeal_pre_chunks4_Kernel (hKernelIdeal := hKernelIdeal) (hReferenceIdeal := hReferenceIdeal) (hPre_chunks4_Kernel := hPre_chunks4_Kernel)
    ∧ algebraic_KernelIdeal_ReferenceIdeal_pre_chunks5_Kernel (hKernelIdeal := hKernelIdeal) (hReferenceIdeal := hReferenceIdeal) (hPre_chunks5_Kernel := hPre_chunks5_Kernel)
    ∧ algebraic_KernelIdeal_ReferenceIdeal_pre_chunks6_Kernel (hKernelIdeal := hKernelIdeal) (hReferenceIdeal := hReferenceIdeal) (hPre_chunks6_Kernel := hPre_chunks6_Kernel)
    ∧ algebraic_KernelIdeal_ReferenceIdeal_pre_chunks7_Kernel (hKernelIdeal := hKernelIdeal) (hReferenceIdeal := hReferenceIdeal) (hPre_chunks7_Kernel := hPre_chunks7_Kernel)
    ∧ algebraic_KernelIdeal_ReferenceIdeal_pre_chunks8_Kernel (hKernelIdeal := hKernelIdeal) (hReferenceIdeal := hReferenceIdeal) (hPre_chunks8_Kernel := hPre_chunks8_Kernel)
    ∧ algebraic_KernelIdeal_ReferenceIdeal_pre_chunks9_Kernel (hKernelIdeal := hKernelIdeal) (hReferenceIdeal := hReferenceIdeal) (hPre_chunks9_Kernel := hPre_chunks9_Kernel)
    ∧ algebraic_KernelIdeal_ReferenceIdeal_pre_chunks10_Kernel (hKernelIdeal := hKernelIdeal) (hReferenceIdeal := hReferenceIdeal) (hPre_chunks10_Kernel := hPre_chunks10_Kernel)
    ∧ algebraic_KernelIdeal_ReferenceIdeal_pre_chunks11_Kernel (hKernelIdeal := hKernelIdeal) (hReferenceIdeal := hReferenceIdeal) (hPre_chunks11_Kernel := hPre_chunks11_Kernel)
    ∧ algebraic_KernelIdeal_ReferenceIdeal_pre_chunks12_Kernel (hKernelIdeal := hKernelIdeal) (hReferenceIdeal := hReferenceIdeal) (hPre_chunks12_Kernel := hPre_chunks12_Kernel)
    ∧ algebraic_KernelIdeal_ReferenceIdeal_pre_chunks13_Kernel (hKernelIdeal := hKernelIdeal) (hReferenceIdeal := hReferenceIdeal) (hPre_chunks13_Kernel := hPre_chunks13_Kernel)
    ∧ algebraic_KernelIdeal_ReferenceIdeal_pre_chunks14_Kernel (hKernelIdeal := hKernelIdeal) (hReferenceIdeal := hReferenceIdeal) (hPre_chunks14_Kernel := hPre_chunks14_Kernel)
    ∧ algebraic_KernelIdeal_ReferenceIdeal_pre_chunks15_Kernel (hKernelIdeal := hKernelIdeal) (hReferenceIdeal := hReferenceIdeal) (hPre_chunks15_Kernel := hPre_chunks15_Kernel)
    ∧ algebraic_KernelIdeal_ReferenceIdeal_pre_chunks16_Kernel (hKernelIdeal := hKernelIdeal) (hReferenceIdeal := hReferenceIdeal) (hPre_chunks16_Kernel := hPre_chunks16_Kernel)
-- ==== Pre_chunks0_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 0#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks0_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 0#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks10_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 10#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks10_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 10#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks11_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 11#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks11_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 11#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks12_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 12#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks12_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 12#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks13_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 13#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks13_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 13#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks14_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 14#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks14_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 14#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks15_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 15#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks15_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 15#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks16_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 16#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks16_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 16#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks1_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 1#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks1_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 1#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks2_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 2#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks2_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 2#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks3_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 3#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks3_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 3#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks4_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 4#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks4_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 4#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks5_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 5#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks5_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 5#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks6_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 6#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks6_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 6#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks7_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 7#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks7_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 7#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks8_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 8#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks8_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 8#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks9_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 9#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S1024x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== Pre_chunks9_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  bcast_S_S1024 : S_.BroadcastsInDim S1024 (![] : Fin 0 → Fin S1024.rank)
  natLt_1_32 : 1 < 32
  reducesTo_S1024_S_d0 : S1024.ReducesTo [0] S_
  h_S_ : 0 < S_.numel
  slices_S2048_S1024_1024 : S2048.Slices ![1024] S1024
  bcast_S_S2048 : S_.BroadcastsInDim S2048 (![] : Fin 0 → Fin S2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_part1 {F : FTy → Type} [FloatOps F] (main_v4 : IVec S_ 32) (main_v14 : IVec S2048 1) (main_v16 : IVec S_ 1) : IVec S2048 1 :=
  let main_v17 : IVec S2048 1 := broadcastInDim S2048 ![] bcast_S_S2048 main_v16
  let main_v18 : IVec S2048 1 := andi main_v14 main_v17
  let main_c_6 : IVec S_ 32 := constantI S_ 32 1024#32
  let main_v19 : IVec S_ 32 := subi main_c_6 main_v4
  let main_c_7 : IVec S_ 32 := constantI S_ 32 63#32
  let main_v20 : IVec S_ 32 := addi main_v19 main_c_7
  let main_c_8 : IVec S_ 32 := constantI S_ 32 64#32
  let main_v21 : IVec S_ 32 := fn_floor_divide (F := F) main_v20 main_c_8
  let main_c_9 : IVec S_ 32 := constantI S_ 32 9#32
  let main_v22 : IVec S_ 1 := cmpi .eq main_v21 main_c_9
  let main_v23 : IVec S2048 1 := broadcastInDim S2048 ![] bcast_S_S2048 main_v22
  let main_v24 : IVec S2048 1 := andi main_v18 main_v23
  main_v24

def fn {F : FTy → Type} [FloatOps F] (main_arg0 : FVec F S2048x512 .f32) (main_arg1 : IVec S2048 32) : IVec S2048 1 :=
  let main_v0 : IVec S1024 32 := (extractStridedSlice S1024 ![0] · slices_S2048_S1024_0) main_arg1
  let main_c : IVec S_ 32 := constantI S_ 32 0#32
  let main_v1 : IVec S1024 32 := broadcastInDim S1024 ![] bcast_S_S1024 main_c
  let main_v2 : IVec S1024 1 := cmpi .eq main_v0 main_v1
  let main_v3 : IVec S1024 32 := (extui 32 · natLt_1_32) main_v2
  let main_c_0 : IVec S_ 32 := constantI S_ 32 0#32
  let main_v4 : IVec S_ 32 := (fun x v => Host.reduce IntOp.addi x v reducesTo_S1024_S_d0 h_S_) main_v3 main_c_0
  let main_v5 : IVec S1024 32 := (extractStridedSlice S1024 ![1024] · slices_S2048_S1024_1024) main_arg1
  let main_c_1 : IVec S_ 32 := constantI S_ 32 0#32
  let main_v6 : IVec S1024 32 := broadcastInDim S1024 ![] bcast_S_S1024 main_c_1
  let main_v7 : IVec S1024 1 := cmpi .eq main_v5 main_v6
  let main_v8 : IVec S1024 32 := (extui 32 · natLt_1_32) main_v7
  let main_c_2 : IVec S_ 32 := constantI S_ 32 0#32
  let main_v9 : IVec S_ 32 := (fun x v => Host.reduce IntOp.addi x v reducesTo_S1024_S_d0 h_S_) main_v8 main_c_2
  let main_c_3 : IVec S_ 32 := constantI S_ 32 0#32
  let main_v10 : IVec S2048 32 := broadcastInDim S2048 ![] bcast_S_S2048 main_c_3
  let main_v11 : IVec S2048 1 := cmpi .eq main_arg1 main_v10
  let main_c_4 : IVec S_ 32 := constantI S_ 32 1#32
  let main_v12 : IVec S2048 32 := broadcastInDim S2048 ![] bcast_S_S2048 main_c_4
  let main_v13 : IVec S2048 1 := cmpi .eq main_arg1 main_v12
  let main_v14 : IVec S2048 1 := ori main_v11 main_v13
  let main_v15 : IVec S_ 32 := addi main_v4 main_v9
  let main_c_5 : IVec S_ 32 := constantI S_ 32 1024#32
  let main_v16 : IVec S_ 1 := cmpi .eq main_v15 main_c_5
  fn_part1 (F := F) main_v4 main_v14 main_v16
-- ==== ReferenceIdeal.lean ====
abbrev S2048x512 : Shape := ⟨2, ![2048, 512]⟩
abbrev S2048 : Shape := ⟨1, ![2048]⟩
abbrev S_ : Shape := ⟨0, ![]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel.lean ====
abbrev S1024x512 : Shape := ⟨2, ![1024, 512]⟩
abbrev S2048 : Shape := ⟨1, ![2048]⟩
abbrev S_ : Shape := ⟨0, ![]⟩
abbrev S1024 : Shape := ⟨1, ![1024]⟩
abbrev S1 : Shape := ⟨1, ![1]⟩
abbrev S1x1024 : Shape := ⟨2, ![1, 1024]⟩
abbrev S1024x1 : Shape := ⟨2, ![1024, 1]⟩
abbrev S1024x1024 : Shape := ⟨2, ![1024, 1024]⟩
abbrev S2048x1 : Shape := ⟨2, ![2048, 1]⟩
abbrev S2048x512 : Shape := ⟨2, ![2048, 512]⟩
abbrev S64x512 : Shape := ⟨2, ![64, 512]⟩
abbrev S16 : Shape := ⟨1, ![16]⟩
abbrev S64x1 : Shape := ⟨2, ![64, 1]⟩

abbrev nBuf : Space → Nat
  | .hbm => 80
  | .vmem => 3
  | .smem => 1
  | _ => 0

abbrev bufTy : (tb : Table) → Fin (tcTables nBuf tb) → BufTy
  | .hbm, ⟨0, _⟩ => ⟨S1024x512, .f32⟩
  | .hbm, ⟨1, _⟩ => ⟨S2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1x1024, .i32⟩
  | .hbm, ⟨45, _⟩ => ⟨S1024x1, .i32⟩
  | .hbm, ⟨46, _⟩ => ⟨S1024x1, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S_, .i32⟩
  | .hbm, ⟨52, _⟩ => ⟨S1024x1024, .i32⟩
  | .hbm, ⟨53, _⟩ => ⟨S1024x1024, .i32⟩
  | .hbm, ⟨54, _⟩ => ⟨S1024x1024, .i32⟩
  | .hbm, ⟨55, _⟩ => ⟨S_, .i32⟩
  | .hbm, ⟨56, _⟩ => ⟨S1024, .i32⟩
  | .hbm, ⟨57, _⟩ => ⟨S1024x1, .i32⟩
  | .hbm, ⟨58, _⟩ => ⟨S1024x1024, .i32⟩
  | .hbm, ⟨59, _⟩ => ⟨S1024x1024, .i32⟩
  | .hbm, ⟨60, _⟩ => ⟨S1024x1024, .i1⟩
  | .hbm, ⟨61, _⟩ => ⟨S_, .i32⟩
  | .hbm, ⟨62, _⟩ => ⟨S_, .i32⟩
  | .hbm, ⟨63, _⟩ => ⟨S1024x1024, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024, .i32⟩
  | .hbm, ⟨68, _⟩ => ⟨S2048, .i32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x512, .f32⟩
  | .hbm, ⟨78, _⟩ => ⟨S1, .i32⟩
  | .hbm, ⟨79, _⟩ => ⟨S1024x512, .f32⟩
  | .local _ .vmem, ⟨0, _⟩ => ⟨S2048x512, .f32⟩
  | .local _ .vmem, ⟨1, _⟩ => ⟨S1024x512, .f32⟩
  | .local _ .vmem, ⟨2, _⟩ => ⟨S64x512, .f32⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_c : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_9 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_11 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let c0_i32_211 : BitVec 32 := 0#32
  ![v305.toNat, 0]
def k0_off2 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let v306 : BitVec 32 := Scalar.addi c1024_i32_204 v305
  let c0_i32_212 : BitVec 32 := 0#32
  ![v306.toNat, 0]
def k0_dev2 (d0 : Dev nD) : Nat :=
  let c0_i32_208 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_207 : BitVec 32 := 4#32
  let v307 : BitVec 32 := Scalar.muli v9 c4_i32_207
  let v308 : BitVec 32 := Scalar.addi c0_i32_208 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v309 : BitVec 32 := Scalar.muli v5 c2_i32_209
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v311 : BitVec 32 := Scalar.muli v8 c1_i32_210
  let v312 : BitVec 32 := Scalar.addi v310 v311
  v312.toNat
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let c0_i32_211 : BitVec 32 := 0#32
  ![v305.toNat, 0]
def k0_off4 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let v306 : BitVec 32 := Scalar.addi c1024_i32_204 v305
  let c0_i32_212 : BitVec 32 := 0#32
  ![v306.toNat, 0]
def k0_dev3 (d0 : Dev nD) : Nat :=
  let c0_i32_208 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_207 : BitVec 32 := 4#32
  let v307 : BitVec 32 := Scalar.muli v9 c4_i32_207
  let v308 : BitVec 32 := Scalar.addi c0_i32_208 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v309 : BitVec 32 := Scalar.muli v5 c2_i32_209
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v311 : BitVec 32 := Scalar.muli v8 c1_i32_210
  let v312 : BitVec 32 := Scalar.addi v310 v311
  v312.toNat
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let c0_i32_210 : BitVec 32 := 0#32
  ![v305.toNat, 0]
def k0_off6 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let v306 : BitVec 32 := Scalar.addi c1024_i32_203 v305
  let c0_i32_211 : BitVec 32 := 0#32
  ![v306.toNat, 0]
def k0_dev4 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off7 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let c0_i32_210 : BitVec 32 := 0#32
  ![v305.toNat, 0]
def k0_off8 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let v306 : BitVec 32 := Scalar.addi c1024_i32_203 v305
  let c0_i32_211 : BitVec 32 := 0#32
  ![v306.toNat, 0]
def k0_dev5 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off9 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let c0_i32_210 : BitVec 32 := 0#32
  ![v305.toNat, 0]
def k0_off10 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let v306 : BitVec 32 := Scalar.addi c1024_i32_203 v305
  let c0_i32_211 : BitVec 32 := 0#32
  ![v306.toNat, 0]
def k0_dev6 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off11 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let c0_i32_210 : BitVec 32 := 0#32
  ![v305.toNat, 0]
def k0_off12 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let v306 : BitVec 32 := Scalar.addi c1024_i32_203 v305
  let c0_i32_211 : BitVec 32 := 0#32
  ![v306.toNat, 0]
def k0_dev7 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off13 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let c0_i32_210 : BitVec 32 := 0#32
  ![v305.toNat, 0]
def k0_off14 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let v306 : BitVec 32 := Scalar.addi c1024_i32_203 v305
  let c0_i32_211 : BitVec 32 := 0#32
  ![v306.toNat, 0]
def k0_dev8 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off15 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let c0_i32_210 : BitVec 32 := 0#32
  ![v305.toNat, 0]
def k0_off16 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let v306 : BitVec 32 := Scalar.addi c1024_i32_203 v305
  let c0_i32_211 : BitVec 32 := 0#32
  ![v306.toNat, 0]
def k0_dev9 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off17 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let c0_i32_210 : BitVec 32 := 0#32
  ![v305.toNat, 0]
def k0_off18 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let v306 : BitVec 32 := Scalar.addi c1024_i32_203 v305
  let c0_i32_211 : BitVec 32 := 0#32
  ![v306.toNat, 0]
def k0_dev10 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off19 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let c0_i32_210 : BitVec 32 := 0#32
  ![v305.toNat, 0]
def k0_off20 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let v306 : BitVec 32 := Scalar.addi c1024_i32_203 v305
  let c0_i32_211 : BitVec 32 := 0#32
  ![v306.toNat, 0]
def k0_dev11 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off21 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let c0_i32_210 : BitVec 32 := 0#32
  ![v305.toNat, 0]
def k0_off22 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let v306 : BitVec 32 := Scalar.addi c1024_i32_203 v305
  let c0_i32_211 : BitVec 32 := 0#32
  ![v306.toNat, 0]
def k0_dev12 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off23 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let c0_i32_210 : BitVec 32 := 0#32
  ![v305.toNat, 0]
def k0_off24 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let v306 : BitVec 32 := Scalar.addi c1024_i32_203 v305
  let c0_i32_211 : BitVec 32 := 0#32
  ![v306.toNat, 0]
def k0_dev13 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off25 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let c0_i32_210 : BitVec 32 := 0#32
  ![v305.toNat, 0]
def k0_off26 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let v306 : BitVec 32 := Scalar.addi c1024_i32_203 v305
  let c0_i32_211 : BitVec 32 := 0#32
  ![v306.toNat, 0]
def k0_dev14 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off27 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let c0_i32_210 : BitVec 32 := 0#32
  ![v305.toNat, 0]
def k0_off28 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let v306 : BitVec 32 := Scalar.addi c1024_i32_203 v305
  let c0_i32_211 : BitVec 32 := 0#32
  ![v306.toNat, 0]
def k0_dev15 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v307 : BitVec 32 := Scalar.muli v9 c4_i32_206
  let v308 : BitVec 32 := Scalar.addi c0_i32_207 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v309 : BitVec 32 := Scalar.muli v5 c2_i32_208
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v311 : BitVec 32 := Scalar.muli v8 c1_i32_209
  let v312 : BitVec 32 := Scalar.addi v310 v311
  v312.toNat
def k0_off29 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let c0_i32_211 : BitVec 32 := 0#32
  ![v305.toNat, 0]
def k0_off30 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let v306 : BitVec 32 := Scalar.addi c1024_i32_204 v305
  let c0_i32_212 : BitVec 32 := 0#32
  ![v306.toNat, 0]
def k0_dev16 (d0 : Dev nD) : Nat :=
  let c0_i32_208 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_207 : BitVec 32 := 4#32
  let v307 : BitVec 32 := Scalar.muli v9 c4_i32_207
  let v308 : BitVec 32 := Scalar.addi c0_i32_208 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v309 : BitVec 32 := Scalar.muli v5 c2_i32_209
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v311 : BitVec 32 := Scalar.muli v8 c1_i32_210
  let v312 : BitVec 32 := Scalar.addi v310 v311
  v312.toNat
def k0_off31 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let c0_i32_211 : BitVec 32 := 0#32
  ![v305.toNat, 0]
def k0_off32 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let v306 : BitVec 32 := Scalar.addi c1024_i32_204 v305
  let c0_i32_212 : BitVec 32 := 0#32
  ![v306.toNat, 0]
def k0_dev17 (d0 : Dev nD) : Nat :=
  let c0_i32_208 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_207 : BitVec 32 := 4#32
  let v307 : BitVec 32 := Scalar.muli v9 c4_i32_207
  let v308 : BitVec 32 := Scalar.addi c0_i32_208 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v309 : BitVec 32 := Scalar.muli v5 c2_i32_209
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v311 : BitVec 32 := Scalar.muli v8 c1_i32_210
  let v312 : BitVec 32 := Scalar.addi v310 v311
  v312.toNat
def k0_off33 (d0 : Dev nD) (v17 : BitVec 32) : Fin 2 → Nat :=
  let c1024_i32_208 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c1_i32_203 : BitVec 32 := 1#32
  let v305 : BitVec 32 := Scalar.subi v39 c1_i32_203
  let c64_i32_204 : BitVec 32 := 64#32
  let v306 : BitVec 32 := Scalar.muli v305 c64_i32_204
  let c1024_i32_207 : BitVec 32 := 1024#32
  let c1_i32_205 : BitVec 32 := 1#32
  let v307 : BitVec 32 := Scalar.addi v305 c1_i32_205
  let c64_i32_206 : BitVec 32 := 64#32
  let v308 : BitVec 32 := Scalar.muli v307 c64_i32_206
  let v309 : BitVec 32 := Scalar.subi c1024_i32_207 v308
  let v310 : BitVec 32 := Scalar.select v18 v306 v309
  let v311 : BitVec 32 := Scalar.addi c1024_i32_208 v310
  let c0_i32_213 : BitVec 32 := 0#32
  ![v311.toNat, 0]
def k0_cond17 (d0 : Dev nD) (v17 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c0_i32_54 : BitVec 32 := 0#32
  let v104 : BitVec 1 := Scalar.cmpi .sgt v39 c0_i32_54
  let v105 : BitVec 32 := Scalar.extui v104
  let c0_i32_55 : BitVec 32 := 0#32
  let v106 : BitVec 1 := Scalar.cmpi .ne v105 c0_i32_55
  v106

def k0_dev18 (d0 : Dev nD) : Nat :=
  let c0_i32_210 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_209 : BitVec 32 := 4#32
  let v312 : BitVec 32 := Scalar.muli v9 c4_i32_209
  let v313 : BitVec 32 := Scalar.addi c0_i32_210 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v314 : BitVec 32 := Scalar.muli v5 c2_i32_211
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v316 : BitVec 32 := Scalar.muli v8 c1_i32_212
  let v317 : BitVec 32 := Scalar.addi v315 v316
  v317.toNat
def k0_off34 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let v306 : Index := Scalar.indexCast v305
  let c0_204 : Index := 0#32
  ![v306.toNat, 0]
def k0_off35 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let v309 : Index := Scalar.indexCast v305
  let c0_205 : Index := 0#32
  ![v309.toNat, 0]
def k0_off36 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let v306 : Index := Scalar.indexCast v305
  let c0_204 : Index := 0#32
  ![v306.toNat, 0]
def k0_off37 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let v309 : Index := Scalar.indexCast v305
  let c0_205 : Index := 0#32
  ![v309.toNat, 0]
def k0_off38 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let v306 : Index := Scalar.indexCast v305
  let c0_203 : Index := 0#32
  ![v306.toNat, 0]
def k0_off39 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let v309 : Index := Scalar.indexCast v305
  let c0_204 : Index := 0#32
  ![v309.toNat, 0]
def k0_off40 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let v306 : Index := Scalar.indexCast v305
  let c0_203 : Index := 0#32
  ![v306.toNat, 0]
def k0_off41 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let v309 : Index := Scalar.indexCast v305
  let c0_204 : Index := 0#32
  ![v309.toNat, 0]
def k0_off42 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let v306 : Index := Scalar.indexCast v305
  let c0_203 : Index := 0#32
  ![v306.toNat, 0]
def k0_off43 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let v309 : Index := Scalar.indexCast v305
  let c0_204 : Index := 0#32
  ![v309.toNat, 0]
def k0_off44 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let v306 : Index := Scalar.indexCast v305
  let c0_203 : Index := 0#32
  ![v306.toNat, 0]
def k0_off45 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let v309 : Index := Scalar.indexCast v305
  let c0_204 : Index := 0#32
  ![v309.toNat, 0]
def k0_off46 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let v306 : Index := Scalar.indexCast v305
  let c0_203 : Index := 0#32
  ![v306.toNat, 0]
def k0_off47 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let v309 : Index := Scalar.indexCast v305
  let c0_204 : Index := 0#32
  ![v309.toNat, 0]
def k0_off48 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let v306 : Index := Scalar.indexCast v305
  let c0_203 : Index := 0#32
  ![v306.toNat, 0]
def k0_off49 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let v309 : Index := Scalar.indexCast v305
  let c0_204 : Index := 0#32
  ![v309.toNat, 0]
def k0_off50 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let v306 : Index := Scalar.indexCast v305
  let c0_203 : Index := 0#32
  ![v306.toNat, 0]
def k0_off51 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let v309 : Index := Scalar.indexCast v305
  let c0_204 : Index := 0#32
  ![v309.toNat, 0]
def k0_off52 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let v306 : Index := Scalar.indexCast v305
  let c0_203 : Index := 0#32
  ![v306.toNat, 0]
def k0_off53 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let v309 : Index := Scalar.indexCast v305
  let c0_204 : Index := 0#32
  ![v309.toNat, 0]
def k0_off54 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let v306 : Index := Scalar.indexCast v305
  let c0_203 : Index := 0#32
  ![v306.toNat, 0]
def k0_off55 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let v309 : Index := Scalar.indexCast v305
  let c0_204 : Index := 0#32
  ![v309.toNat, 0]
def k0_off56 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let v306 : Index := Scalar.indexCast v305
  let c0_203 : Index := 0#32
  ![v306.toNat, 0]
def k0_off57 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let v309 : Index := Scalar.indexCast v305
  let c0_204 : Index := 0#32
  ![v309.toNat, 0]
def k0_off58 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let v306 : Index := Scalar.indexCast v305
  let c0_203 : Index := 0#32
  ![v306.toNat, 0]
def k0_off59 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let v309 : Index := Scalar.indexCast v305
  let c0_204 : Index := 0#32
  ![v309.toNat, 0]
def k0_off60 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let v306 : Index := Scalar.indexCast v305
  let c0_203 : Index := 0#32
  ![v306.toNat, 0]
def k0_off61 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let v309 : Index := Scalar.indexCast v305
  let c0_204 : Index := 0#32
  ![v309.toNat, 0]
def k0_off62 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let v306 : Index := Scalar.indexCast v305
  let c0_204 : Index := 0#32
  ![v306.toNat, 0]
def k0_off63 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let v309 : Index := Scalar.indexCast v305
  let c0_205 : Index := 0#32
  ![v309.toNat, 0]
def k0_off64 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let v306 : Index := Scalar.indexCast v305
  let c0_204 : Index := 0#32
  ![v306.toNat, 0]
def k0_off65 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let v309 : Index := Scalar.indexCast v305
  let c0_205 : Index := 0#32
  ![v309.toNat, 0]
def k0_off66 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let c0_i32_211 : BitVec 32 := 0#32
  ![v305.toNat, 0]
def k0_off67 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let v306 : BitVec 32 := Scalar.addi c1024_i32_204 v305
  let c0_i32_212 : BitVec 32 := 0#32
  ![v306.toNat, 0]
def k0_off68 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let c0_i32_211 : BitVec 32 := 0#32
  ![v305.toNat, 0]
def k0_off69 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let v306 : BitVec 32 := Scalar.addi c1024_i32_204 v305
  let c0_i32_212 : BitVec 32 := 0#32
  ![v306.toNat, 0]
def k0_off70 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let c0_i32_210 : BitVec 32 := 0#32
  ![v305.toNat, 0]
def k0_off71 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let v306 : BitVec 32 := Scalar.addi c1024_i32_203 v305
  let c0_i32_211 : BitVec 32 := 0#32
  ![v306.toNat, 0]
def k0_off72 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let c0_i32_210 : BitVec 32 := 0#32
  ![v305.toNat, 0]
def k0_off73 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let v306 : BitVec 32 := Scalar.addi c1024_i32_203 v305
  let c0_i32_211 : BitVec 32 := 0#32
  ![v306.toNat, 0]
def k0_off74 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let c0_i32_210 : BitVec 32 := 0#32
  ![v305.toNat, 0]
def k0_off75 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let v306 : BitVec 32 := Scalar.addi c1024_i32_203 v305
  let c0_i32_211 : BitVec 32 := 0#32
  ![v306.toNat, 0]
def k0_off76 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let c0_i32_210 : BitVec 32 := 0#32
  ![v305.toNat, 0]
def k0_off77 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let v306 : BitVec 32 := Scalar.addi c1024_i32_203 v305
  let c0_i32_211 : BitVec 32 := 0#32
  ![v306.toNat, 0]
def k0_off78 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let c0_i32_210 : BitVec 32 := 0#32
  ![v305.toNat, 0]
def k0_off79 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let v306 : BitVec 32 := Scalar.addi c1024_i32_203 v305
  let c0_i32_211 : BitVec 32 := 0#32
  ![v306.toNat, 0]
def k0_off80 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let c0_i32_210 : BitVec 32 := 0#32
  ![v305.toNat, 0]
def k0_off81 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let v306 : BitVec 32 := Scalar.addi c1024_i32_203 v305
  let c0_i32_211 : BitVec 32 := 0#32
  ![v306.toNat, 0]
def k0_off82 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let c0_i32_210 : BitVec 32 := 0#32
  ![v305.toNat, 0]
def k0_off83 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let v306 : BitVec 32 := Scalar.addi c1024_i32_203 v305
  let c0_i32_211 : BitVec 32 := 0#32
  ![v306.toNat, 0]
def k0_off84 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let c0_i32_210 : BitVec 32 := 0#32
  ![v305.toNat, 0]
def k0_off85 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let v306 : BitVec 32 := Scalar.addi c1024_i32_203 v305
  let c0_i32_211 : BitVec 32 := 0#32
  ![v306.toNat, 0]
def k0_off86 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let c0_i32_210 : BitVec 32 := 0#32
  ![v305.toNat, 0]
def k0_off87 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let v306 : BitVec 32 := Scalar.addi c1024_i32_203 v305
  let c0_i32_211 : BitVec 32 := 0#32
  ![v306.toNat, 0]
def k0_off88 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let c0_i32_210 : BitVec 32 := 0#32
  ![v305.toNat, 0]
def k0_off89 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let v306 : BitVec 32 := Scalar.addi c1024_i32_203 v305
  let c0_i32_211 : BitVec 32 := 0#32
  ![v306.toNat, 0]
def k0_off90 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let c0_i32_210 : BitVec 32 := 0#32
  ![v305.toNat, 0]
def k0_off91 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let v306 : BitVec 32 := Scalar.addi c1024_i32_203 v305
  let c0_i32_211 : BitVec 32 := 0#32
  ![v306.toNat, 0]
def k0_off92 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let c0_i32_210 : BitVec 32 := 0#32
  ![v305.toNat, 0]
def k0_off93 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let v306 : BitVec 32 := Scalar.addi c1024_i32_203 v305
  let c0_i32_211 : BitVec 32 := 0#32
  ![v306.toNat, 0]
def k0_off94 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let c0_i32_211 : BitVec 32 := 0#32
  ![v305.toNat, 0]
def k0_off95 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let v306 : BitVec 32 := Scalar.addi c1024_i32_204 v305
  let c0_i32_212 : BitVec 32 := 0#32
  ![v306.toNat, 0]
def k0_off96 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let c0_i32_211 : BitVec 32 := 0#32
  ![v305.toNat, 0]
def k0_off97 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let v306 : BitVec 32 := Scalar.addi c1024_i32_204 v305
  let c0_i32_212 : BitVec 32 := 0#32
  ![v306.toNat, 0]
def k0_off98 (d0 : Dev nD) (v17 : BitVec 32) : Fin 2 → Nat :=
  let c1024_i32_208 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c1_i32_203 : BitVec 32 := 1#32
  let v305 : BitVec 32 := Scalar.subi v39 c1_i32_203
  let c64_i32_204 : BitVec 32 := 64#32
  let v306 : BitVec 32 := Scalar.muli v305 c64_i32_204
  let c1024_i32_207 : BitVec 32 := 1024#32
  let c1_i32_205 : BitVec 32 := 1#32
  let v307 : BitVec 32 := Scalar.addi v305 c1_i32_205
  let c64_i32_206 : BitVec 32 := 64#32
  let v308 : BitVec 32 := Scalar.muli v307 c64_i32_206
  let v309 : BitVec 32 := Scalar.subi c1024_i32_207 v308
  let v310 : BitVec 32 := Scalar.select v18 v306 v309
  let v311 : BitVec 32 := Scalar.addi c1024_i32_208 v310
  let c0_i32_213 : BitVec 32 := 0#32
  ![v311.toNat, 0]
def k0_cond50 (d0 : Dev nD) (v17 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c0_i32_151 : BitVec 32 := 0#32
  let v235 : BitVec 1 := Scalar.cmpi .sgt v39 c0_i32_151
  let v236 : BitVec 32 := Scalar.extui v235
  let c0_i32_152 : BitVec 32 := 0#32
  let v237 : BitVec 1 := Scalar.cmpi .ne v236 c0_i32_152
  v237

def k0_off99 (d0 : Dev nD) (v17 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32_215 : BitVec 32 := 1024#32
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c64_i32_214 : BitVec 32 := 64#32
  let v319 : BitVec 32 := Scalar.muli v39 c64_i32_214
  let v320 : BitVec 32 := Scalar.subi c1024_i32_215 v319
  let c1_i32_216 : BitVec 32 := 1#32
  let v321 : BitVec 32 := Scalar.subi v39 c1_i32_216
  let c64_i32_217 : BitVec 32 := 64#32
  let v322 : BitVec 32 := Scalar.muli v321 c64_i32_217
  let v323 : BitVec 32 := Scalar.select v18 v320 v322
  let v335 : Index := Scalar.indexCast v323
  let c0_220 : Index := 0#32
  ![v335.toNat, 0]
def k0_off100 (d0 : Dev nD) (v17 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32_215 : BitVec 32 := 1024#32
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c64_i32_214 : BitVec 32 := 64#32
  let v319 : BitVec 32 := Scalar.muli v39 c64_i32_214
  let v320 : BitVec 32 := Scalar.subi c1024_i32_215 v319
  let c1_i32_216 : BitVec 32 := 1#32
  let v321 : BitVec 32 := Scalar.subi v39 c1_i32_216
  let c64_i32_217 : BitVec 32 := 64#32
  let v322 : BitVec 32 := Scalar.muli v321 c64_i32_217
  let v323 : BitVec 32 := Scalar.select v18 v320 v322
  let v342 : Index := Scalar.indexCast v323
  let c0_223 : Index := 0#32
  ![v342.toNat, 0]
def k0_off101 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let v306 : BitVec 32 := Scalar.addi c1024_i32_204 v305
  let c0_i32_208 : BitVec 32 := 0#32
  ![v306.toNat, 0]
def k0_off102 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c0_i32_203 : BitVec 32 := 0#32
  let c960_i32 : BitVec 32 := 960#32
  let v305 : BitVec 32 := Scalar.select v18 c0_i32_203 c960_i32
  let c0_i32_209 : BitVec 32 := 0#32
  ![v305.toNat, 0]
def k0_off103 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let v306 : BitVec 32 := Scalar.addi c1024_i32_204 v305
  let c0_i32_208 : BitVec 32 := 0#32
  ![v306.toNat, 0]
def k0_off104 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c64_i32_203 : BitVec 32 := 64#32
  let c896_i32 : BitVec 32 := 896#32
  let v305 : BitVec 32 := Scalar.select v18 c64_i32_203 c896_i32
  let c0_i32_209 : BitVec 32 := 0#32
  ![v305.toNat, 0]
def k0_off105 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let v306 : BitVec 32 := Scalar.addi c1024_i32_203 v305
  let c0_i32_207 : BitVec 32 := 0#32
  ![v306.toNat, 0]
def k0_off106 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c128_i32 : BitVec 32 := 128#32
  let c832_i32 : BitVec 32 := 832#32
  let v305 : BitVec 32 := Scalar.select v18 c128_i32 c832_i32
  let c0_i32_208 : BitVec 32 := 0#32
  ![v305.toNat, 0]
def k0_off107 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let v306 : BitVec 32 := Scalar.addi c1024_i32_203 v305
  let c0_i32_207 : BitVec 32 := 0#32
  ![v306.toNat, 0]
def k0_off108 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c192_i32 : BitVec 32 := 192#32
  let c768_i32 : BitVec 32 := 768#32
  let v305 : BitVec 32 := Scalar.select v18 c192_i32 c768_i32
  let c0_i32_208 : BitVec 32 := 0#32
  ![v305.toNat, 0]
def k0_off109 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let v306 : BitVec 32 := Scalar.addi c1024_i32_203 v305
  let c0_i32_207 : BitVec 32 := 0#32
  ![v306.toNat, 0]
def k0_off110 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c256_i32 : BitVec 32 := 256#32
  let c704_i32 : BitVec 32 := 704#32
  let v305 : BitVec 32 := Scalar.select v18 c256_i32 c704_i32
  let c0_i32_208 : BitVec 32 := 0#32
  ![v305.toNat, 0]
def k0_off111 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let v306 : BitVec 32 := Scalar.addi c1024_i32_203 v305
  let c0_i32_207 : BitVec 32 := 0#32
  ![v306.toNat, 0]
def k0_off112 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c320_i32 : BitVec 32 := 320#32
  let c640_i32 : BitVec 32 := 640#32
  let v305 : BitVec 32 := Scalar.select v18 c320_i32 c640_i32
  let c0_i32_208 : BitVec 32 := 0#32
  ![v305.toNat, 0]
def k0_off113 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let v306 : BitVec 32 := Scalar.addi c1024_i32_203 v305
  let c0_i32_207 : BitVec 32 := 0#32
  ![v306.toNat, 0]
def k0_off114 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c384_i32 : BitVec 32 := 384#32
  let c576_i32 : BitVec 32 := 576#32
  let v305 : BitVec 32 := Scalar.select v18 c384_i32 c576_i32
  let c0_i32_208 : BitVec 32 := 0#32
  ![v305.toNat, 0]
def k0_off115 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let v306 : BitVec 32 := Scalar.addi c1024_i32_203 v305
  let c0_i32_207 : BitVec 32 := 0#32
  ![v306.toNat, 0]
def k0_off116 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c448_i32 : BitVec 32 := 448#32
  let c512_i32 : BitVec 32 := 512#32
  let v305 : BitVec 32 := Scalar.select v18 c448_i32 c512_i32
  let c0_i32_208 : BitVec 32 := 0#32
  ![v305.toNat, 0]
def k0_off117 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let v306 : BitVec 32 := Scalar.addi c1024_i32_203 v305
  let c0_i32_207 : BitVec 32 := 0#32
  ![v306.toNat, 0]
def k0_off118 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c512_i32 : BitVec 32 := 512#32
  let c448_i32 : BitVec 32 := 448#32
  let v305 : BitVec 32 := Scalar.select v18 c512_i32 c448_i32
  let c0_i32_208 : BitVec 32 := 0#32
  ![v305.toNat, 0]
def k0_off119 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let v306 : BitVec 32 := Scalar.addi c1024_i32_203 v305
  let c0_i32_207 : BitVec 32 := 0#32
  ![v306.toNat, 0]
def k0_off120 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c576_i32 : BitVec 32 := 576#32
  let c384_i32 : BitVec 32 := 384#32
  let v305 : BitVec 32 := Scalar.select v18 c576_i32 c384_i32
  let c0_i32_208 : BitVec 32 := 0#32
  ![v305.toNat, 0]
def k0_off121 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let v306 : BitVec 32 := Scalar.addi c1024_i32_203 v305
  let c0_i32_207 : BitVec 32 := 0#32
  ![v306.toNat, 0]
def k0_off122 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c640_i32 : BitVec 32 := 640#32
  let c320_i32 : BitVec 32 := 320#32
  let v305 : BitVec 32 := Scalar.select v18 c640_i32 c320_i32
  let c0_i32_208 : BitVec 32 := 0#32
  ![v305.toNat, 0]
def k0_off123 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let v306 : BitVec 32 := Scalar.addi c1024_i32_203 v305
  let c0_i32_207 : BitVec 32 := 0#32
  ![v306.toNat, 0]
def k0_off124 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c704_i32 : BitVec 32 := 704#32
  let c256_i32 : BitVec 32 := 256#32
  let v305 : BitVec 32 := Scalar.select v18 c704_i32 c256_i32
  let c0_i32_208 : BitVec 32 := 0#32
  ![v305.toNat, 0]
def k0_off125 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let v306 : BitVec 32 := Scalar.addi c1024_i32_203 v305
  let c0_i32_207 : BitVec 32 := 0#32
  ![v306.toNat, 0]
def k0_off126 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c768_i32 : BitVec 32 := 768#32
  let c192_i32 : BitVec 32 := 192#32
  let v305 : BitVec 32 := Scalar.select v18 c768_i32 c192_i32
  let c0_i32_208 : BitVec 32 := 0#32
  ![v305.toNat, 0]
def k0_off127 (d0 : Dev nD) : Fin 2 → Nat :=
  let c1024_i32_203 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let v306 : BitVec 32 := Scalar.addi c1024_i32_203 v305
  let c0_i32_207 : BitVec 32 := 0#32
  ![v306.toNat, 0]
def k0_off128 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c832_i32 : BitVec 32 := 832#32
  let c128_i32 : BitVec 32 := 128#32
  let v305 : BitVec 32 := Scalar.select v18 c832_i32 c128_i32
  let c0_i32_208 : BitVec 32 := 0#32
  ![v305.toNat, 0]
def k0_off129 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let v306 : BitVec 32 := Scalar.addi c1024_i32_204 v305
  let c0_i32_208 : BitVec 32 := 0#32
  ![v306.toNat, 0]
def k0_off130 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c896_i32 : BitVec 32 := 896#32
  let c64_i32_203 : BitVec 32 := 64#32
  let v305 : BitVec 32 := Scalar.select v18 c896_i32 c64_i32_203
  let c0_i32_209 : BitVec 32 := 0#32
  ![v305.toNat, 0]
def k0_off131 (d0 : Dev nD) : Fin 2 → Nat :=
  let c1024_i32_204 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let v306 : BitVec 32 := Scalar.addi c1024_i32_204 v305
  let c0_i32_208 : BitVec 32 := 0#32
  ![v306.toNat, 0]
def k0_off132 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c960_i32 : BitVec 32 := 960#32
  let c0_i32_203 : BitVec 32 := 0#32
  let v305 : BitVec 32 := Scalar.select v18 c960_i32 c0_i32_203
  let c0_i32_209 : BitVec 32 := 0#32
  ![v305.toNat, 0]
def k0_off133 (d0 : Dev nD) (v17 : BitVec 32) : Fin 2 → Nat :=
  let c1024_i32_208 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c1_i32_203 : BitVec 32 := 1#32
  let v305 : BitVec 32 := Scalar.subi v39 c1_i32_203
  let c64_i32_204 : BitVec 32 := 64#32
  let v306 : BitVec 32 := Scalar.muli v305 c64_i32_204
  let c1024_i32_207 : BitVec 32 := 1024#32
  let c1_i32_205 : BitVec 32 := 1#32
  let v307 : BitVec 32 := Scalar.addi v305 c1_i32_205
  let c64_i32_206 : BitVec 32 := 64#32
  let v308 : BitVec 32 := Scalar.muli v307 c64_i32_206
  let v309 : BitVec 32 := Scalar.subi c1024_i32_207 v308
  let v310 : BitVec 32 := Scalar.select v18 v306 v309
  let v311 : BitVec 32 := Scalar.addi c1024_i32_208 v310
  let c0_i32_210 : BitVec 32 := 0#32
  ![v311.toNat, 0]
def k0_cond67 (d0 : Dev nD) (v17 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v18 : BitVec 1 := Scalar.cmpi .eq v2 c0_i32_9
  let c1024_i32 : BitVec 32 := 1024#32
  let v19 : BitVec 32 := Scalar.subi c1024_i32 v17
  let v20 : BitVec 32 := Scalar.select v18 v19 v17
  let c64_i32 : BitVec 32 := 64#32
  let v21 : BitVec 32 := Scalar.addi v20 c64_i32
  let c1_i32_10 : BitVec 32 := 1#32
  let v22 : BitVec 32 := Scalar.subi v21 c1_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c64_i32_11 : BitVec 32 := 64#32
  let c0_i32_14 : BitVec 32 := 0#32
  let v29 : BitVec 1 := Scalar.cmpi .sgt c64_i32_11 c0_i32_14
  let v30 : BitVec 32 := Scalar.extui v29
  let c0_i32_15 : BitVec 32 := 0#32
  let v31 : BitVec 1 := Scalar.cmpi .slt c64_i32_11 c0_i32_15
  let v32 : BitVec 32 := Scalar.extui v31
  let v33 : BitVec 32 := Scalar.subi v30 v32
  let v34 : BitVec 1 := Scalar.cmpi .ne v28 v33
  let v35 : BitVec 32 := Scalar.remsi v22 c64_i32_11
  let c0_i32_16 : BitVec 32 := 0#32
  let v36 : BitVec 1 := Scalar.cmpi .ne v35 c0_i32_16
  let v37 : BitVec 1 := Scalar.andi v34 v36
  let v23 : BitVec 32 := Scalar.divsi v22 c64_i32_11
  let c1_i32_17 : BitVec 32 := 1#32
  let v38 : BitVec 32 := Scalar.subi v23 c1_i32_17
  let v39 : BitVec 32 := Scalar.select v37 v38 v23
  let c0_i32_201 : BitVec 32 := 0#32
  let v302 : BitVec 1 := Scalar.cmpi .sgt v39 c0_i32_201
  let v303 : BitVec 32 := Scalar.extui v302
  let c0_i32_202 : BitVec 32 := 0#32
  let v304 : BitVec 1 := Scalar.cmpi .ne v303 c0_i32_202
  v304

def k0_chk1 (d0 : Dev nD) (v17 : BitVec 32) : Prop :=
  (∀ (k0_h17 : k0_cond17 d0 v17 = 1#1), ∀ a, (k0_off33 d0 v17) a + S64x512.size a ≤ S2048x512.size a) ∧
  (∀ (k0_h50 : k0_cond50 d0 v17 = 1#1), ∀ a, (k0_off98 d0 v17) a + S64x512.size a ≤ S2048x512.size a) ∧
  (∀ (k0_h50 : k0_cond50 d0 v17 = 1#1), ∀ a, (k0_off99 d0 v17) a + S64x512.size a ≤ S2048x512.size a) ∧
  (∀ (k0_h50 : k0_cond50 d0 v17 = 1#1), ∀ a, (k0_off100 d0 v17) a + S64x512.size a ≤ S1024x512.size a) ∧
  (∀ (k0_h67 : k0_cond67 d0 v17 = 1#1), ∀ a, (k0_off133 d0 v17) a + S64x512.size a ≤ S2048x512.size a)
theorem k0_off33_inb : ∀ (d0 : Dev nD) (v17 : BitVec 32) (k0_hw1 : k0_chk1 d0 v17), ∀ (k0_h17 : k0_cond17 d0 v17 = 1#1), ∀ a, (k0_off33 d0 v17) a + S64x512.size a ≤ S2048x512.size a := fun d0 v17 k0_hw1 k0_h17 => k0_hw1.1 k0_h17
theorem k0_off98_inb : ∀ (d0 : Dev nD) (v17 : BitVec 32) (k0_hw1 : k0_chk1 d0 v17), ∀ (k0_h50 : k0_cond50 d0 v17 = 1#1), ∀ a, (k0_off98 d0 v17) a + S64x512.size a ≤ S2048x512.size a := fun d0 v17 k0_hw1 k0_h50 => k0_hw1.2.1 k0_h50
theorem k0_off99_inb : ∀ (d0 : Dev nD) (v17 : BitVec 32) (k0_hw1 : k0_chk1 d0 v17), ∀ (k0_h50 : k0_cond50 d0 v17 = 1#1), ∀ a, (k0_off99 d0 v17) a + S64x512.size a ≤ S2048x512.size a := fun d0 v17 k0_hw1 k0_h50 => k0_hw1.2.2.1 k0_h50
theorem k0_off100_inb : ∀ (d0 : Dev nD) (v17 : BitVec 32) (k0_hw1 : k0_chk1 d0 v17), ∀ (k0_h50 : k0_cond50 d0 v17 = 1#1), ∀ a, (k0_off100 d0 v17) a + S64x512.size a ≤ S1024x512.size a := fun d0 v17 k0_hw1 k0_h50 => k0_hw1.2.2.2.1 k0_h50
theorem k0_off133_inb : ∀ (d0 : Dev nD) (v17 : BitVec 32) (k0_hw1 : k0_chk1 d0 v17), ∀ (k0_h67 : k0_cond67 d0 v17 = 1#1), ∀ a, (k0_off133 d0 v17) a + S64x512.size a ≤ S2048x512.size a := fun d0 v17 k0_hw1 k0_h67 => k0_hw1.2.2.2.2 k0_h67

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Host.lean ====
/- What the host operations before the exchange compute. -/
module
public import proofs.«01_k».proof.Proof.Gen.KernelIdeal.Regions
public import Idealize.ShloMosaic.Lib.StableHlo.RunRead
public import Idealize.ShloMosaic.Lib.Routing.Ops
public import Idealize.ShloMosaic.Lib.DynamicIndex

@[expose] public section

noncomputable section

namespace Cert.Exchange

open Idealize.ShloMosaic Cert.KernelIdeal Cert.KernelIdeal.Gen
open Idealize.ShloMosaic.TcCoe
open Idealize.ShloMosaic.Routing Idealize.ShloMosaic.ValueIdx

variable {F : FTy → Type} [FloatOps F]

/-- Where a device's half of the destinations starts, as the host computes it. -/
def startWord (c : Dev nD) : IVec S_ 32 :=
  let p := muli (Host.remui (Host.divui (constantI S_ 32 (Dev.word c)) (constantI S_ 32 4#32)) (constantI S_ 32 2#32)) (constantI S_ 32 1024#32)
  select (cmpi .slt p (constantI S_ 32 0#32)) (addi p (constantI S_ 32 2048#32)) p

/-- A device's half of the destinations. -/
def half (c : Dev nD) (d : IVec S2048 32) : IVec S1024 32 :=
  Host.dynamicSlice S1024 d (fun _ => (startWord c (Shape.Idx.first h_S_)).toInt) sliceFits_S2048_S1024

/-- Which entries are zero. -/
def flags (d : IVec S1024 32) : IVec S1024 1 := cmpi .eq d (broadcastInDim S1024 ![] bcast_S_S1024 (constantI S_ 32 0#32))

/-- How many entries are zero, up to and including each. -/
def sums (d : IVec S1024 32) : IVec S1024 32 :=
  Host.reduceWindow IntOp.addi ![1024] ![1] ![1023] ![0] (extui 32 (flags d) natLt_1_32) (broadcastInDim S_ ![] bcast_S_S_ (constantI S_ 32 0#32))
    reduceWindows_S1024_S1024_w1024s1p1023_0 h_S_

/-- How many entries are zero. -/
def total (d : IVec S1024 32) : IVec S_ 32 := shapeCast S_ (extractStridedSlice S1 ![1023] (sums d) slices_S1024_S1_1023) shapeCasts_S1_S_

/-- The place of each entry in the half's own stable order. -/
def ranks (d : IVec S1024 32) : IVec S1024 32 :=
  select (flags d) (subi (sums d) (broadcastInDim S1024 ![] bcast_S_S1024 (constantI S_ 32 1#32)))
    (subi (addi (iotaInDim S1024 32 0) (broadcastInDim S1024 ![] bcast_S_S1024 (total d))) (sums d))

/-- The places turned so that the ones come first. -/
def turned (d : IVec S1024 32) : IVec S1024 32 :=
  let r := addi (ranks d) (broadcastInDim S1024 ![] bcast_S_S1024 (subi (constantI S_ 32 1024#32) (total d)))
  select (cmpi .sge r (broadcastInDim S1024 ![] bcast_S_S1024 (constantI S_ 32 1024#32)))
    (subi r (broadcastInDim S1024 ![] bcast_S_S1024 (constantI S_ 32 1024#32))) r

/-- The entry at each place, as a sum over the entries of those placed there. -/
def inverse (r : IVec S1024 32) : IVec S1024 32 :=
  Host.reduce IntOp.addi
    (select
      (cmpi .eq (broadcastInDim S1024x1024 ![0, 1] bcast_S1024x1_S1024x1024_0_1 (broadcastInDim S1024x1 ![0] bcast_S1024_S1024x1_0 r))
        (broadcastInDim S1024x1024 ![0, 1] bcast_S1x1024_S1024x1024_0_1 (broadcastInDim S1x1024 ![1] bcast_S1024_S1x1024_1 (iotaInDim S1024 32 0))))
      (broadcastInDim S1024x1024 ![0, 1] bcast_S1024x1_S1024x1024_0_1 (broadcastInDim S1024x1 ![0] bcast_S1024_S1024x1_0 (iotaInDim S1024 32 0)))
      (broadcastInDim S1024x1024 ![] bcast_S_S1024x1024 (constantI S_ 32 0#32)))
    (constantI S_ 32 0#32) reducesTo_S1024x1024_S1024_d0 h_S_

/-- Both orders, one above the other. -/
def both (d : IVec S1024 32) : IVec S2048 32 :=
  concatenate S2048 0 [⟨S1024, inverse (ranks d)⟩, ⟨S1024, inverse (turned d)⟩] concatenates_S1024_S1024_S2048_d0

/-- The same as row numbers. -/
def picks (d : IVec S1024 32) : IVec S2048x1 32 :=
  broadcastInDim S2048x1 ![0] bcast_S2048_S2048x1_0
    (select (cmpi .slt (both d) (broadcastInDim S2048 ![] bcast_S_S2048 (constantI S_ 32 0#32)))
      (addi (both d) (broadcastInDim S2048 ![] bcast_S_S2048 (constantI S_ 32 1024#32))) (both d))

variable (V : Valuation τ sig (Elt F)) (c : Dev nD)

theorem cut0 : StableHlo.after (hostOps0 c) V = StableHlo.after ((hostOps0 c).drop 14) (StableHlo.after ((hostOps0 c).take 14) V) := by
  rw [← StableHlo.after_append, List.take_append_drop]
theorem st0_v8 : StableHlo.upto ((hostOps0 c).take 14) V 13 (Proc.devRef .tc main_v8) = startWord c := by
  after_reads_simp
  rfl
theorem st0_arg1 : StableHlo.upto ((hostOps0 c).take 14) V 13 (Proc.devRef .tc main_arg1) = V (Proc.devRef .tc main_arg1) := by
  after_reads_simp
theorem st0_v9 : StableHlo.after ((hostOps0 c).take 14) V (Proc.devRef .tc main_v9) = half c (V (Proc.devRef .tc main_arg1)) := by
  rw [StableHlo.after_last_write (i := 13) [] rfl rfl (by decide) V, StableHlo.unaryIndexed_result, st0_arg1]
  unfold half
  refine congrArg (fun w => Host.dynamicSlice S1024 _ w _) (funext fun k => ?_)
  rw [← st0_v8 V c]
  obtain rfl : k = 0 := Subsingleton.elim _ _
  rfl
theorem st0_v12 : StableHlo.after (hostOps0 c) V (Proc.devRef .tc main_v12) = flags (half c (V (Proc.devRef .tc main_arg1))) := by
  rw [cut0, ← st0_v9 V c]
  generalize StableHlo.after ((hostOps0 c).take 14) V = W
  after_reads_simp
  rfl
theorem st0_v13 : StableHlo.after (hostOps0 c) V (Proc.devRef .tc main_v13) = extui 32 (flags (half c (V (Proc.devRef .tc main_arg1)))) natLt_1_32 := by
  rw [cut0, ← st0_v9 V c]
  generalize StableHlo.after ((hostOps0 c).take 14) V = W
  after_reads_simp
  rfl
theorem st1_v14 (d : IVec S1024 32) (h : V (Proc.devRef .tc main_v13) = extui 32 (flags d) natLt_1_32) :
    StableHlo.after hostOps0_1 V (Proc.devRef .tc main_v14) = sums d := by
  after_reads_simp
  simp -implicitDefEqProofs only [StableHlo.TRef.toBuf, StableHlo.TRef.ofBuf, cast_cast, cast_eq]
  rw [h]
  rfl
theorem st2_v16 (d : IVec S1024 32) (h : V (Proc.devRef .tc main_v14) = sums d) :
    StableHlo.after hostOps0_2 V (Proc.devRef .tc main_v16) = total d := by
  after_reads_simp
  rw [h]
  rfl
theorem st10_v53 (d : IVec S1024 32) (h : V (Proc.devRef .tc main_v16) = total d) :
    StableHlo.after hostOps0_10 V (Proc.devRef .tc main_v53) = shapeCast S1 (total d) shapeCasts_S_S1 := by
  after_reads_simp
  rw [h]
  rfl

theorem st0_v10 : StableHlo.after (hostOps0 c) V (Proc.devRef .tc main_v10) = iotaInDim S1024 32 0 := by
  rw [cut0]
  generalize StableHlo.after ((hostOps0 c).take 14) V = W
  after_reads_simp
theorem st3_v22 (d : IVec S1024 32) (h10 : V (Proc.devRef .tc main_v10) = iotaInDim S1024 32 0) (h12 : V (Proc.devRef .tc main_v12) = flags d)
    (h14 : V (Proc.devRef .tc main_v14) = sums d) :
    StableHlo.after hostOps0_3 (StableHlo.after hostOps0_2 V) (Proc.devRef .tc main_v22) = ranks d := by
  after_reads_simp
  simp -implicitDefEqProofs only [StableHlo.TRef.toBuf, StableHlo.TRef.ofBuf, cast_cast, cast_eq]
  rw [h10, h12, h14]
  rfl
theorem st5_v30 (d : IVec S1024 32) (h16 : V (Proc.devRef .tc main_v16) = total d) (h22 : V (Proc.devRef .tc main_v22) = ranks d) :
    StableHlo.after hostOps0_5 (StableHlo.after hostOps0_4 V) (Proc.devRef .tc main_v30) = turned d := by
  after_reads_simp
  simp -implicitDefEqProofs only [StableHlo.TRef.toBuf, StableHlo.TRef.ofBuf, cast_cast, cast_eq]
  rw [h16, h22]
  rfl
theorem st8_v38 (r : IVec S1024 32) (h10 : V (Proc.devRef .tc main_v10) = iotaInDim S1024 32 0) (h22 : V (Proc.devRef .tc main_v22) = r) :
    StableHlo.after hostOps0_8 (StableHlo.after hostOps0_7 (StableHlo.after hostOps0_6 V)) (Proc.devRef .tc main_v38) = inverse r := by
  after_reads_simp
  simp -implicitDefEqProofs only [StableHlo.TRef.toBuf, StableHlo.TRef.ofBuf, cast_cast, cast_eq]
  rw [h10, h22]
  rfl
theorem st10_v44 (r : IVec S1024 32) (h10 : V (Proc.devRef .tc main_v10) = iotaInDim S1024 32 0) (h30 : V (Proc.devRef .tc main_v30) = r) :
    StableHlo.after hostOps0_10 (StableHlo.after hostOps0_9 (StableHlo.after hostOps0_8 (StableHlo.after hostOps0_7 (StableHlo.after hostOps0_6 V))))
      (Proc.devRef .tc main_v44) = inverse r := by
  after_reads_simp
  simp -implicitDefEqProofs only [StableHlo.TRef.toBuf, StableHlo.TRef.ofBuf, cast_cast, cast_eq]
  rw [h10, h30]
  rfl
theorem cut10 : StableHlo.after hostOps0_10 V = StableHlo.after (hostOps0_10.drop 2) (StableHlo.after (hostOps0_10.take 2) V) := by
  rw [← StableHlo.after_append, List.take_append_drop]
theorem st10_v52 (a b : IVec S1024 32) (h38 : V (Proc.devRef .tc main_v38) = a)
    (h44 : V (Proc.devRef .tc main_v44) = b) :
    StableHlo.after (hostOps0_10.drop 2) V (Proc.devRef .tc main_v52)
      = Host.gather gather_S1024x512_S2048x1_S2048x512_1_0_n_n_0_1_1512 (V (Proc.devRef .tc main_arg0))
        (let u := concatenate S2048 0 [⟨S1024, a⟩, ⟨S1024, b⟩] concatenates_S1024_S1024_S2048_d0
        broadcastInDim S2048x1 ![0] bcast_S2048_S2048x1_0
          (select (cmpi .slt u (broadcastInDim S2048 ![] bcast_S_S2048 (constantI S_ 32 0#32)))
            (addi u (broadcastInDim S2048 ![] bcast_S_S2048 (constantI S_ 32 1024#32))) u)) := by
  after_reads_simp
  rw [StableHlo.upto_zero, h38, h44]

variable (m : (ℓ : Loc nD τ sig) → Buf (Elt F) ℓ)

/-- The device's half of the destinations it was given. -/
abbrev mine : IVec S1024 32 := half c (m (c, Proc.devRef .tc main_arg1))

theorem V1_v10 : V1 m c (Proc.devRef .tc main_v10) = iotaInDim S1024 32 0 := st0_v10 _ c
theorem V2_v14 : V2 m c (Proc.devRef .tc main_v14) = sums (mine c m) := st1_v14 _ _ (st0_v13 _ c)
theorem V3_v16 : V3 m c (Proc.devRef .tc main_v16) = total (mine c m) := st2_v16 _ _ (V2_v14 c m)
theorem V4_v22 : V4 m c (Proc.devRef .tc main_v22) = ranks (mine c m) :=
  st3_v22 _ _ ((V2_of m c main_v10 (by decide)).trans (V1_v10 c m)) ((V2_of m c main_v12 (by decide)).trans (st0_v12 _ c)) (V2_v14 c m)
theorem V6_v30 : V6 m c (Proc.devRef .tc main_v30) = turned (mine c m) :=
  st5_v30 _ _ ((V4_of m c main_v16 (by decide)).trans (V3_v16 c m)) (V4_v22 c m)
theorem V6_v10 : V6 m c (Proc.devRef .tc main_v10) = iotaInDim S1024 32 0 :=
  (V6_of m c main_v10 (by decide)).trans <| (V5_of m c main_v10 (by decide)).trans <| (V4_of m c main_v10 (by decide)).trans <|
    (V3_of m c main_v10 (by decide)).trans <| (V2_of m c main_v10 (by decide)).trans (V1_v10 c m)
theorem V6_v22 : V6 m c (Proc.devRef .tc main_v22) = ranks (mine c m) :=
  (V6_of m c main_v22 (by decide)).trans <| (V5_of m c main_v22 (by decide)).trans (V4_v22 c m)
theorem V9_v38 : V9 m c (Proc.devRef .tc main_v38) = inverse (ranks (mine c m)) := st8_v38 _ _ (V6_v10 c m) (V6_v22 c m)
theorem V11_v44 : V11 m c (Proc.devRef .tc main_v44) = inverse (turned (mine c m)) := st10_v44 _ _ (V6_v10 c m) (V6_v30 c m)
theorem V10_v16 : V10 m c (Proc.devRef .tc main_v16) = total (mine c m) :=
  (V10_of m c main_v16 (by decide)).trans <| (V9_of m c main_v16 (by decide)).trans <| (V8_of m c main_v16 (by decide)).trans <|
    (V7_of m c main_v16 (by decide)).trans <| (V6_of m c main_v16 (by decide)).trans <| (V5_of m c main_v16 (by decide)).trans <|
    (V4_of m c main_v16 (by decide)).trans (V3_v16 c m)
theorem V10_arg0 : V10 m c (Proc.devRef .tc main_arg0) = m (c, Proc.devRef .tc main_arg0) :=
  (V11_of m c main_arg0 (by decide)).symm.trans <| ((V12_of m (fun _ r c' => m ((c' : Thread nD τ).loc r)) c main_arg0 (by decide)).symm.trans
    (V12_main_arg0 m (fun _ r c' => m ((c' : Thread nD τ).loc r)) c))

/-- The count the exchange is given. -/
theorem V11_v53 : V11 m c (Proc.devRef .tc main_v53) = shapeCast S1 (total (mine c m)) shapeCasts_S_S1 := st10_v53 _ _ (V10_v16 c m)

/-- The rows the exchange is given. -/
theorem V11_v52 : V11 m c (Proc.devRef .tc main_v52)
    = Host.gather gather_S1024x512_S2048x1_S2048x512_1_0_n_n_0_1_1512 (m (c, Proc.devRef .tc main_arg0)) (picks (mine c m)) := by
  have h44 := V11_v44 c m
  rw [show V11 m c = StableHlo.after hostOps0_10 (V10 m c) from rfl, cut10] at h44 ⊢
  rw [StableHlo.after_unwritten [main_v45, main_c_13, main_v46, main_v47, main_c_14, main_v48, main_v49, main_v50, main_v51, main_v52, main_v53]
    rfl (by decide)] at h44
  rw [st10_v52 _ _ _ ((StableHlo.after_unwritten [main_c_12, main_v44] rfl (by decide) _).trans
      ((V10_of m c main_v38 (by decide)).trans (V9_v38 c m))) h44,
    StableHlo.after_unwritten [main_c_12, main_v44] rfl (by decide), V10_arg0]
  rfl

end Cert.Exchange
-- ==== Proof.Counts.lean ====
/- Ranks: where a stable sort of zeros and ones puts each entry, in terms of counts of zeros. -/
module
public import Mathlib.Order.Interval.Finset.Nat
public import Mathlib.Data.Nat.Count
public import Mathlib.Data.Fintype.EquivFin
public import Mathlib.Data.Fintype.Card
public import Mathlib.Tactic.Ring

@[expose] public section

namespace Cert.Exchange

section
variable (p : ℕ → Prop) [DecidablePred p]

/-- The place of entry `i` of `n`: the zeros (where `p` holds) first, each kind in its own order. -/
def rank (n i : ℕ) : ℕ := if p i then Nat.count p i else Nat.count p n + (i - Nat.count p i)

theorem rank_of {n i : ℕ} (h : p i) : rank p n i = Nat.count p i := if_pos h
theorem rank_not {n i : ℕ} (h : ¬p i) : rank p n i = Nat.count p n + (i - Nat.count p i) := if_neg h

theorem count_lt {n i : ℕ} (hi : i < n) (h : p i) : Nat.count p i < Nat.count p n := Nat.count_strict_mono h hi

/-- Past entry `i` there are no more zeros than entries. -/
theorem count_grow (a b : ℕ) (h : a ≤ b) : Nat.count p b ≤ Nat.count p a + (b - a) := by
  obtain ⟨k, rfl⟩ := Nat.exists_eq_add_of_le h
  rw [Nat.count_add]
  have := Nat.count_le (p := fun k => p (a + k)) (n := k)
  omega

theorem rank_lt {n i : ℕ} (hi : i < n) : rank p n i < n := by
  unfold rank
  have h1 := Nat.count_le (p := p) (n := n)
  have h2 := Nat.count_le (p := p) (n := i)
  split
  · rename_i h; exact lt_of_lt_of_le (count_lt p hi h) h1
  · rename_i h
    have := count_grow p (i + 1) n hi
    rw [Nat.count_succ, if_neg h] at this
    omega

theorem rank_lt_iff {n i : ℕ} (hi : i < n) : rank p n i < Nat.count p n ↔ p i := by
  constructor
  · intro h
    by_contra hn
    rw [rank_not p hn] at h
    omega
  · intro h
    rw [rank_of p h]
    exact count_lt p hi h

theorem rank_inj {n i j : ℕ} (hi : i < n) (hj : j < n) (h : rank p n i = rank p n j) : i = j := by
  by_cases a : p i
  · have b : p j := (rank_lt_iff p hj).1 (h ▸ (rank_lt_iff p hi).2 a)
    rw [rank_of p a, rank_of p b] at h
    exact Nat.count_injective a b h
  · have b : ¬p j := fun b => a ((rank_lt_iff p hi).1 (h ▸ (rank_lt_iff p hj).2 b))
    rw [rank_not p a, rank_not p b] at h
    have h1 := Nat.count_le (p := p) (n := i)
    have h2 := Nat.count_le (p := p) (n := j)
    have step (i j : ℕ) (a : ¬p i) (hlt : i < j) : i - Nat.count p i < j - Nat.count p j := by
      have g := count_grow p (i + 1) j hlt
      rw [Nat.count_succ, if_neg a] at g
      have := Nat.count_le (p := p) (n := i)
      omega
    rcases Nat.lt_trichotomy i j with g | g | g
    · have := step i j a g; omega
    · exact g
    · have := step j i b g; omega

theorem rank_surj {n r : ℕ} (hr : r < n) : ∃ i, i < n ∧ rank p n i = r := by
  let f : Fin n → Fin n := fun i => ⟨rank p n i, rank_lt p i.isLt⟩
  have hf : Function.Injective f := fun i j h => Fin.ext (rank_inj p i.isLt j.isLt (congrArg Fin.val h))
  obtain ⟨i, hi⟩ := (Finite.injective_iff_surjective.1 hf) ⟨r, hr⟩
  exact ⟨i, i.isLt, congrArg Fin.val hi⟩

/-- Turning the places by the number of ones puts the ones first: the place, in that order, of the entry ranked `r`. -/
def turn (n z r : ℕ) : ℕ := if n ≤ r + (n - z) then r + (n - z) - n else r + (n - z)

theorem turn_lt {n z r : ℕ} (hr : r < n) : turn n z r < n := by unfold turn; split <;> omega
theorem turn_inj {n z r s : ℕ} (hz : z ≤ n) (hr : r < n) (hs : s < n) (h : turn n z r = turn n z s) : r = s := by
  unfold turn at h; split at h <;> split at h <;> omega

end

/-! ## Two halves of 1024 holding 1024 zeros between them -/

section
variable (p : ℕ → Prop) [DecidablePred p]

abbrev second (i : ℕ) : Prop := p (1024 + i)

variable (even : Nat.count p 1024 + Nat.count (second p) 1024 = 1024)

include even

theorem count_all : Nat.count p 2048 = 1024 := by
  rw [show 2048 = 1024 + 1024 from rfl, Nat.count_add]; exact even

/-- The first half's zeros keep their places; its ones go to the start of the second half. -/
theorem rank_first {i : ℕ} : rank p 2048 i = if p i then rank p 1024 i else 1024 + (rank p 1024 i - Nat.count p 1024) := by
  split
  · rename_i h; rw [rank_of p h, rank_of p h]
  · rename_i h; rw [rank_not p h, rank_not p h, count_all p even]; omega

/-- The second half's zeros go after the first half's; its ones after the first half's ones. -/
theorem rank_second {i : ℕ} : rank p 2048 (1024 + i) =
    if second p i then Nat.count p 1024 + rank (second p) 1024 i else 1024 + rank (second p) 1024 i := by
  have hc : Nat.count p (1024 + i) = Nat.count p 1024 + Nat.count (second p) i := Nat.count_add _ _ _
  split
  · rename_i h; rw [rank_of p h, rank_of (second p) h, hc]
  · rename_i h
    rw [rank_not p h, rank_not (second p) h, count_all p even, hc]
    have := Nat.count_le (p := second p) (n := i)
    have := Nat.count_le (p := p) (n := 1024)
    omega

end

end Cert.Exchange
-- ==== Proof.Words.lean ====
/- The kernel's word arithmetic in closed form: which device is the partner, which rows a device sends, where each
   64-row chunk lies, and how many chunks cross. Every fact is decided over the eight devices and the 1025 counts. -/
module
public import proofs.«01_k».proof.Proof.Gen.KernelIdeal.Skeleton
public import proofs.«01_k».proof.Proof.Gen.KernelIdeal.Regions

@[expose] public section

noncomputable section

namespace Cert.Exchange

open Idealize.ShloMosaic Cert.KernelIdeal Cert.KernelIdeal.Gen

/-- The partner: the device whose first mesh coordinate is the other one. -/
def pr (c : Dev nD) : Dev nD := ⟨(c.val + 4) % 8, Nat.mod_lt _ (by decide)⟩
theorem pr_pr (c : Dev nD) : pr (pr c) = c := by revert c; decide
theorem pr_ne (c : Dev nD) : pr c ≠ c := by revert c; decide

/-- The place, among the sixteen 64-row chunks of a half, of the chunk a device handles `k`-th. -/
def ch (c : Dev nD) (k : ℕ) : ℕ := if c.val < 4 then k else 15 - k
theorem ch_lt (c : Dev nD) {k : ℕ} (h : k < 16) : ch c k < 16 := by unfold ch; split <;> omega
theorem ch_ch (c : Dev nD) {k : ℕ} (h : k < 16) : ch c (ch c k) = k := by unfold ch; split <;> omega
theorem ch_pr (c : Dev nD) {k : ℕ} (h : k < 16) : ch (pr c) k = ch c (15 - k) := by
  have : ∀ c : Dev nD, ∀ k : Fin 16, ch (pr c) k = ch c (15 - k) := by decide
  exact this c ⟨k, h⟩

/-- The rows a device whose count of zeros is `t` sends, and the chunks they make. -/
def ex (c : Dev nD) (t : ℕ) : ℕ := if c.val < 4 then 1024 - t else t
def nn (c : Dev nD) (t : ℕ) : ℕ := (ex c t + 63) / 64
theorem nn_le (c : Dev nD) {t : ℕ} (h : t ≤ 1024) : nn c t ≤ 16 := by unfold nn ex; split <;> omega

/-- Row `r` of a device's result is one of its own. -/
def own (c : Dev nD) (t r : ℕ) : Prop := if c.val < 4 then r < t else t ≤ r
instance (c : Dev nD) (t r : ℕ) : Decidable (own c t r) := by unfold own; infer_instance

abbrev w32 (n : ℕ) : BitVec 32 := BitVec.ofNat 32 n

section Conditions

theorem cond_send (N k : ℕ) (hN : N ≤ 16) (hk : k < 16) :
    Scalar.cmpi .ne (Scalar.extui (Scalar.cmpi .sgt (Scalar.subi (w32 N) 1#32) (w32 k)) : BitVec 32) 0#32 = 1#1 ↔ k + 1 < N := by
  have : ∀ N : Fin 17, ∀ k : Fin 16,
      (Scalar.cmpi .ne (Scalar.extui (Scalar.cmpi .sgt (Scalar.subi (w32 N) 1#32) (w32 k)) : BitVec 32) 0#32 = 1#1 ↔ k.val + 1 < N.val) := by
    decide +kernel
  exact this ⟨N, by omega⟩ ⟨k, hk⟩

theorem cond_own (N k : ℕ) (hN : N ≤ 16) (hk : k < 16) :
    Scalar.cmpi .ne (Scalar.extui (Scalar.cmpi .sgt (Scalar.subi 16#32 (w32 N)) (w32 k)) : BitVec 32) 0#32 = 1#1 ↔ k + N < 16 := by
  have : ∀ N : Fin 17, ∀ k : Fin 16,
      (Scalar.cmpi .ne (Scalar.extui (Scalar.cmpi .sgt (Scalar.subi 16#32 (w32 N)) (w32 k)) : BitVec 32) 0#32 = 1#1 ↔ k.val + N.val < 16) := by
    decide +kernel
  exact this ⟨N, by omega⟩ ⟨k, hk⟩

end Conditions

/-- The first mesh coordinate as the kernel computes it, and its test. -/
abbrev xW (c : Dev nD) : BitVec 32 := Scalar.remsi (Scalar.divsi (Dev.word c) 4#32) 2#32
abbrev xB (c : Dev nD) : BitVec 1 := Scalar.cmpi .eq (xW c) 0#32

/-- The rows to send, as a word, and the division by 64 rounded up, as the kernel writes it. -/
abbrev exW (c : Dev nD) (w : BitVec 32) : BitVec 32 := Scalar.select (xB c) (Scalar.subi 1024#32 w) w
abbrev up (v : BitVec 32) : BitVec 32 := Scalar.subi (Scalar.addi v 64#32) 1#32
abbrev nW (v : BitVec 32) : BitVec 32 :=
  Scalar.select
    (Scalar.andi
      (Scalar.cmpi .ne (Scalar.subi (Scalar.extui (Scalar.cmpi .sgt (up v) 0#32)) (Scalar.extui (Scalar.cmpi .slt (up v) 0#32)))
        (Scalar.subi (Scalar.extui (Scalar.cmpi .sgt 64#32 0#32)) (Scalar.extui (Scalar.cmpi .slt 64#32 0#32)) : BitVec 32))
      (Scalar.cmpi .ne (Scalar.remsi (up v) 64#32) 0#32))
    (Scalar.subi (Scalar.divsi (up v) 64#32) 1#32) (Scalar.divsi (up v) 64#32)
/-- The first row, past the middle of the sorted buffer, of the last chunk sent; the first row of the mixed chunk. -/
abbrev padW (b : BitVec 1) (n : BitVec 32) : BitVec 32 :=
  Scalar.addi 1024#32 (Scalar.select b (Scalar.muli (Scalar.subi n 1#32) 64#32)
    (Scalar.subi 1024#32 (Scalar.muli (Scalar.addi (Scalar.subi n 1#32) 1#32) 64#32)))
abbrev mixW (b : BitVec 1) (n : BitVec 32) : BitVec 32 :=
  Scalar.select b (Scalar.subi 1024#32 (Scalar.muli n 64#32)) (Scalar.muli (Scalar.subi n 1#32) 64#32)
abbrev posB (n : BitVec 32) : BitVec 1 := Scalar.cmpi .ne (Scalar.extui (Scalar.cmpi .sgt n 0#32) : BitVec 32) 0#32

theorem xB_eq (c : Dev nD) : xB c = if c.val < 4 then 1#1 else 0#1 := by revert c; decide
theorem xW_eq (c : Dev nD) : xW c = if c.val < 4 then 0#32 else 1#32 := by revert c; decide

theorem nW_eq {e : ℕ} (h : e ≤ 1024) : nW (w32 e) = w32 ((e + 63) / 64) := by
  have : ∀ e : Fin 1025, nW (w32 e) = w32 ((e + 63) / 64) := by decide +kernel
  exact this ⟨e, by omega⟩

theorem exW_eq (c : Dev nD) {t : ℕ} (ht : t ≤ 1024) : exW c (w32 t) = w32 (ex c t) := by
  unfold exW ex; rw [xB_eq]
  by_cases h : c.val < 4
  · rw [if_pos h, if_pos h]
    show 1024#32 - w32 t = w32 (1024 - t)
    apply BitVec.eq_of_toNat_eq
    rw [BitVec.toNat_sub, BitVec.toNat_ofNat, BitVec.toNat_ofNat, BitVec.toNat_ofNat]
    omega
  · rw [if_neg h, if_neg h]; rfl

theorem ex_le (c : Dev nD) {t : ℕ} (ht : t ≤ 1024) : ex c t ≤ 1024 := by unfold ex; split <;> omega

theorem nW_exW (c : Dev nD) {t : ℕ} (ht : t ≤ 1024) : nW (exW c (w32 t)) = w32 (nn c t) := by
  rw [exW_eq c ht, nW_eq (ex_le c ht)]; rfl

theorem pos_iff (N : ℕ) (hN : N ≤ 16) : posB (w32 N) = 1#1 ↔ 0 < N := by
  have : ∀ N : Fin 17, (posB (w32 N) = 1#1 ↔ 0 < N.val) := by decide +kernel
  exact this ⟨N, by omega⟩

theorem padW_eq (c : Dev nD) (N : ℕ) (h0 : 0 < N) (hN : N ≤ 16) : (padW (xB c) (w32 N)).toNat = 1024 + 64 * ch c (N - 1) := by
  have : ∀ c : Dev nD, ∀ N : Fin 17, 0 < N.val → (padW (xB c) (w32 N)).toNat = 1024 + 64 * ch c (N - 1) := by decide +kernel
  exact this c ⟨N, by omega⟩ h0
theorem mixW_eq (c : Dev nD) (N : ℕ) (h0 : 0 < N) (hN : N ≤ 16) : (mixW (xB c) (w32 N)).toNat = 64 * ch c (16 - N) := by
  have : ∀ c : Dev nD, ∀ N : Fin 17, 0 < N.val → (mixW (xB c) (w32 N)).toNat = 64 * ch c (16 - N) := by decide +kernel
  exact this c ⟨N, by omega⟩ h0

section Words

variable (c : Dev nD) {t : ℕ} (ht : t ≤ 1024)
include ht

theorem cond17 : k0_cond17 c (w32 t) = 1#1 ↔ 0 < nn c t := by
  rw [show k0_cond17 c (w32 t) = posB (nW (exW c (w32 t))) from rfl, nW_exW c ht]; exact pos_iff _ (nn_le c ht)
theorem cond50 : k0_cond50 c (w32 t) = 1#1 ↔ 0 < nn c t := by
  rw [show k0_cond50 c (w32 t) = posB (nW (exW c (w32 t))) from rfl, nW_exW c ht]; exact pos_iff _ (nn_le c ht)
theorem cond67 : k0_cond67 c (w32 t) = 1#1 ↔ 0 < nn c t := by
  rw [show k0_cond67 c (w32 t) = posB (nW (exW c (w32 t))) from rfl, nW_exW c ht]; exact pos_iff _ (nn_le c ht)

theorem off33 (h : 0 < nn c t) : k0_off33 c (w32 t) = ![1024 + 64 * ch c (nn c t - 1), 0] := by
  rw [show k0_off33 c (w32 t) = ![(padW (xB c) (nW (exW c (w32 t)))).toNat, 0] from rfl, nW_exW c ht, padW_eq c _ h (nn_le c ht)]
theorem off98 (h : 0 < nn c t) : k0_off98 c (w32 t) = ![1024 + 64 * ch c (nn c t - 1), 0] := by
  rw [show k0_off98 c (w32 t) = ![(padW (xB c) (nW (exW c (w32 t)))).toNat, 0] from rfl, nW_exW c ht, padW_eq c _ h (nn_le c ht)]
theorem off133 (h : 0 < nn c t) : k0_off133 c (w32 t) = ![1024 + 64 * ch c (nn c t - 1), 0] := by
  rw [show k0_off133 c (w32 t) = ![(padW (xB c) (nW (exW c (w32 t)))).toNat, 0] from rfl, nW_exW c ht, padW_eq c _ h (nn_le c ht)]
theorem off99 (h : 0 < nn c t) : k0_off99 c (w32 t) = ![64 * ch c (16 - nn c t), 0] := by
  rw [show k0_off99 c (w32 t) = ![(mixW (xB c) (nW (exW c (w32 t)))).toNat, 0] from rfl, nW_exW c ht, mixW_eq c _ h (nn_le c ht)]
theorem off100 (h : 0 < nn c t) : k0_off100 c (w32 t) = ![64 * ch c (16 - nn c t), 0] := by
  rw [show k0_off100 c (w32 t) = ![(mixW (xB c) (nW (exW c (w32 t)))).toNat, 0] from rfl, nW_exW c ht, mixW_eq c _ h (nn_le c ht)]

theorem chk1 : k0_chk1 c (w32 t) := by
  have hn := nn_le c ht
  have hbig (h : 0 < nn c t) : ∀ a, (![1024 + 64 * ch c (nn c t - 1), 0] : Fin 2 → ℕ) a + S64x512.size a ≤ S2048x512.size a := fun a => by
    have := ch_lt c (k := nn c t - 1) (by omega)
    fin_cases a
    · show 1024 + 64 * ch c (nn c t - 1) + 64 ≤ 2048; omega
    · show 0 + 512 ≤ 512; omega
  have hsm (n : ℕ) (hn : 1024 ≤ n) (h : 0 < nn c t) : ∀ a, (![64 * ch c (16 - nn c t), 0] : Fin 2 → ℕ) a + S64x512.size a ≤ (![n, 512] : Fin 2 → ℕ) a := fun a => by
    have := ch_lt c (k := 16 - nn c t) (by omega)
    fin_cases a
    · show 64 * ch c (16 - nn c t) + 64 ≤ n; omega
    · show 0 + 512 ≤ 512; omega
  refine ⟨fun h => ?_, fun h => ?_, fun h => ?_, fun h => ?_, fun h => ?_⟩
  · have h := (cond17 c ht).mp h; rw [off33 c ht h]; exact hbig h
  · have h := (cond50 c ht).mp h; rw [off98 c ht h]; exact hbig h
  · have h := (cond50 c ht).mp h; rw [off99 c ht h]; exact hsm 2048 (by omega) h
  · have h := (cond50 c ht).mp h; rw [off100 c ht h]; exact hsm 1024 (by omega) h
  · have h := (cond67 c ht).mp h; rw [off133 c ht h]; exact hbig h

end Words

end Cert.Exchange
end
-- ==== Proof.Reads.lean ====
/- The host operations' results, entry by entry: counts of zeros, places, and the entry at each place. -/
module
public import proofs.«01_k».proof.Proof.Host
public import proofs.«01_k».proof.Proof.Counts
public import proofs.«01_k».proof.Proof.Words
public import Idealize.ShloMosaic.Lib.Routing.Words
public import Idealize.ShloMosaic.PureOps.Reduce

@[expose] public section

noncomputable section

namespace Cert.Exchange

open Idealize.ShloMosaic Cert.KernelIdeal Cert.KernelIdeal.Gen
open Idealize.ShloMosaic.Routing Idealize.ShloMosaic.ValueIdx

/-! ## Words holding naturals -/

theorem w32_toNat {n : ℕ} (h : n < 2 ^ 32) : (w32 n).toNat = n := by rw [BitVec.toNat_ofNat]; exact Nat.mod_eq_of_lt h
theorem w32_inj {a b : ℕ} (ha : a < 2 ^ 32) (hb : b < 2 ^ 32) : w32 a = w32 b ↔ a = b :=
  ⟨fun h => by rw [← w32_toNat ha, ← w32_toNat hb, h], fun h => h ▸ rfl⟩
theorem w32_add (a b : ℕ) : w32 a + w32 b = w32 (a + b) := by
  apply BitVec.eq_of_toNat_eq; simp only [BitVec.toNat_add, BitVec.toNat_ofNat]; omega
theorem w32_sub {a b : ℕ} (h : b ≤ a) (ha : a < 2 ^ 32) : w32 a - w32 b = w32 (a - b) := by
  apply BitVec.eq_of_toNat_eq; simp only [BitVec.toNat_sub, BitVec.toNat_ofNat]; omega
theorem w32_toInt {n : ℕ} (h : n < 2 ^ 31) : (w32 n).toInt = n := by
  rw [BitVec.toInt_eq_toNat_cond, w32_toNat (by omega)]; split <;> omega
theorem sge_iff {a b : ℕ} (ha : a < 2 ^ 31) (hb : b < 2 ^ 31) : IntOp.cmpi .sge (w32 a) (w32 b) = 1#1 ↔ b ≤ a := by
  show BitVec.ofBool ((w32 b).sle (w32 a)) = 1#1 ↔ _
  rw [BitVec.sle, w32_toInt ha, w32_toInt hb]
  by_cases h : b ≤ a <;> simp [h]
theorem slt_zero {a : ℕ} (ha : a < 2 ^ 31) : IntOp.cmpi .slt (w32 a) 0#32 = 0#1 := by
  show BitVec.ofBool ((w32 a).slt 0#32) = 0#1
  rw [BitVec.slt, w32_toInt ha]
  rw [decide_eq_false (by simp)]; rfl
theorem eq_iff (a b : BitVec 32) : IntOp.cmpi .eq a b = 1#1 ↔ a = b := by
  show BitVec.ofBool (a == b) = 1#1 ↔ _
  by_cases h : a = b
  · simp [h]
  · rw [beq_eq_false_iff_ne.2 h]; exact ⟨fun e => absurd e (by decide), fun e => absurd e h⟩
theorem select_of {α : Type} {b : BitVec 1} (h : b = 1#1) (x y : α) : Scalar.select b x y = x := if_pos h
theorem select_not {α : Type} {b : BitVec 1} (h : b ≠ 1#1) (x y : α) : Scalar.select b x y = y := if_neg h
theorem bit_zero : ∀ b : BitVec 1, b ≠ 1#1 → b = 0#1 := by decide

/-! ## Zeros -/

/-- Entry `i` of the destinations is zero. -/
def zero (d : IVec S2048 32) (i : ℕ) : Prop := ∃ h : i < 2048, d (ix1 ⟨i, h⟩) = 0#32
instance (d : IVec S2048 32) : DecidablePred (zero d) := fun i => by unfold zero; infer_instance

/-- The first entry of a device's half. -/
def base (c : Dev nD) : ℕ := if c.val < 4 then 0 else 1024
/-- Entry `i` of a device's half is zero. -/
abbrev zeroAt (c : Dev nD) (d : IVec S2048 32) (i : ℕ) : Prop := zero d (base c + i)
/-- How many zeros a device's half has. -/
abbrev zeros (c : Dev nD) (d : IVec S2048 32) : ℕ := Nat.count (zeroAt c d) 1024

theorem zeros_le (c : Dev nD) (d : IVec S2048 32) : zeros c d ≤ 1024 := Nat.count_le _

theorem start_eq : ∀ c : Dev nD, startWord c (Shape.Idx.first h_S_) = w32 (base c) := by decide

theorem base_fits : ∀ c : Dev nD, S2048.Slices ![base c] S1024 := by decide

theorem half_at (c : Dev nD) (d : IVec S2048 32) (i : Fin 1024) (h : base c + i.val < 2048) : half c d (ix1 i) = d (ix1 ⟨base c + i.val, h⟩) := by
  have hb : base c < 2 ^ 31 := by unfold base; split <;> decide
  unfold half
  rw [Host.dynamicSlice_eq_extractStridedSlice S1024 d _ ![base c] _ (base_fits c)
    fun a => by obtain rfl : a = 0 := Subsingleton.elim _ _; rw [start_eq]; exact w32_toInt hb]
  exact slice1 (base c) d (base_fits c) i h

theorem flags_at (c : Dev nD) (d : IVec S2048 32) (i : Fin 1024) : flags (half c d) (ix1 i) = 1#1 ↔ zeroAt c d i := by
  have h : base c + i.val < 2048 := by have := i.isLt; unfold base; split <;> omega
  show IntOp.cmpi .eq (half c d (ix1 i)) (broadcastInDim S1024 ![] bcast_S_S1024 (constantI S_ 32 0#32) (ix1 i)) = 1#1 ↔ _
  rw [bc0, half_at c d i h, eq_iff]
  exact ⟨fun e => ⟨h, e⟩, fun e => e.2⟩

theorem widened {n : ℕ} (f : IVec (shape1 n) 1) (P : ℕ → Prop) [DecidablePred P] (i : Fin n) (hi : f (ix1 i) = 1#1 ↔ P i) (hw : 1 < 32) :
    extui 32 f hw (ix1 i) = BitVec.ofNat 32 (if P i then 1 else 0) := by
  show (f (ix1 i)).setWidth 32 = _
  generalize f (ix1 i) = b at hi
  by_cases h : P i
  · rw [hi.2 h, if_pos h]; rfl
  · rw [if_neg h]
    have hb : b ≠ 1#1 := fun e => h (hi.1 e)
    rw [bit_zero b hb]; rfl

theorem sums_at (c : Dev nD) (d : IVec S2048 32) (j : Fin 1024) : sums (half c d) (ix1 j) = w32 (Nat.count (zeroAt c d) (j + 1)) := by
  unfold sums
  refine (cumsum1 (by decide) _ (fun i => if zeroAt c d i then 1 else 0) (fun i => widened _ _ i (flags_at c d i) _) _ rfl _ _ j).trans ?_
  rw [sum_map_ite]

theorem total_at (c : Dev nD) (d : IVec S2048 32) (i : S_.Idx) : total (half c d) i = w32 (zeros c d) := by
  unfold total
  refine Eq.trans ?_ (sums_at c d ⟨1023, by decide⟩)
  show extractStridedSlice S1 ![1023] (sums (half c d)) slices_S1024_S1_1023 _ = _
  refine (congrArg _ ((eq_ix1 (n := 1) _).trans (congrArg ix1 (Subsingleton.elim _ (0 : Fin 1))))).trans ?_
  exact slice1 1023 _ slices_S1024_S1_1023 (0 : Fin 1) (by decide)

theorem ranks_at (c : Dev nD) (d : IVec S2048 32) (i : Fin 1024) : ranks (half c d) (ix1 i) = w32 (rank (zeroAt c d) 1024 i) := by
  have hi := i.isLt
  have hle := Nat.count_le (p := zeroAt c d) (n := 1024)
  have hle' := Nat.count_le (p := zeroAt c d) (n := i)
  show Scalar.select (flags (half c d) (ix1 i))
    (sums (half c d) (ix1 i) - broadcastInDim S1024 ![] bcast_S_S1024 (constantI S_ 32 1#32) (ix1 i))
    (w32 i + broadcastInDim S1024 ![] bcast_S_S1024 (total (half c d)) (ix1 i) - sums (half c d) (ix1 i)) = _
  rw [bc0, bc0, total_at, sums_at, Nat.count_succ]
  by_cases h : zeroAt c d i
  · rw [select_of ((flags_at c d i).2 h), if_pos h, rank_of _ h]
    exact (w32_sub (by omega) (by omega)).trans (congrArg _ (by omega))
  · rw [select_not fun e => h ((flags_at c d i).1 e), if_neg h, rank_not _ h, w32_add]
    have hz := zeros_le c d
    exact (w32_sub (by omega) (by omega)).trans (congrArg _ (by show i.val + zeros c d - _ = zeros c d + _; omega))

theorem turned_at (c : Dev nD) (d : IVec S2048 32) (i : Fin 1024) :
    turned (half c d) (ix1 i) = w32 (turn 1024 (zeros c d) (rank (zeroAt c d) 1024 i)) := by
  have hr := rank_lt (zeroAt c d) i.isLt
  have hle := zeros_le c d
  have key : addi (ranks (half c d)) (broadcastInDim S1024 ![] bcast_S_S1024 (subi (constantI S_ 32 1024#32) (total (half c d)))) (ix1 i)
      = w32 (rank (zeroAt c d) 1024 i + (1024 - zeros c d)) := by
    show ranks (half c d) (ix1 i) + broadcastInDim S1024 ![] bcast_S_S1024 (subi (constantI S_ 32 1024#32) (total (half c d))) (ix1 i) = _
    rw [bc0, ranks_at]
    show _ + (w32 1024 - total (half c d) ix0) = _
    rw [total_at, w32_sub hle (by decide), w32_add]
  unfold turned
  show Scalar.select (IntOp.cmpi .sge _ (broadcastInDim S1024 ![] bcast_S_S1024 (constantI S_ 32 1024#32) (ix1 i)))
    (_ - broadcastInDim S1024 ![] bcast_S_S1024 (constantI S_ 32 1024#32) (ix1 i)) _ = _
  rw [bc0, key]
  show Scalar.select (IntOp.cmpi .sge _ (w32 1024)) (_ - w32 1024) _ = _
  unfold turn
  by_cases h : 1024 ≤ rank (zeroAt c d) 1024 i + (1024 - zeros c d)
  · rw [select_of ((sge_iff (by omega) (by decide)).2 h), if_pos h, w32_sub h (by omega)]
  · rw [select_not fun e => h ((sge_iff (by omega) (by decide)).1 e), if_neg h]

/-! ## The entry at a place -/

theorem fold_zero {ι : Type} [DecidableEq ι] (s : Finset ι) (g : ι → BitVec 32) (h : ∀ k ∈ s, g k = 0#32) : s.fold IntOp.addi 0#32 g = 0#32 := by
  induction s using Finset.induction_on with
  | empty => rfl
  | insert a s ha ih =>
    rw [Finset.fold_insert ha, ih fun k hk => h k (Finset.mem_insert_of_mem hk), h a (Finset.mem_insert_self a s)]
    rfl

theorem fold_one {n : ℕ} (g : Fin n → BitVec 32) (k : Fin n) (h : ∀ l, l ≠ k → g l = 0#32) : Finset.univ.fold IntOp.addi 0#32 g = g k := by
  rw [← Finset.insert_erase (Finset.mem_univ k), Finset.fold_insert (Finset.notMem_erase k _),
    fold_zero _ _ fun l hl => h l (Finset.ne_of_mem_erase hl)]
  exact BitVec.add_zero _

/-- Where the places are different naturals below 1024, the sum at place `r i` is `i`. -/
theorem inverse_at (v : IVec S1024 32) (r : ℕ → ℕ) (hv : ∀ i : Fin 1024, v (ix1 i) = w32 (r i)) (hlt : ∀ i, i < 1024 → r i < 1024)
    (hinj : ∀ i j, i < 1024 → j < 1024 → r i = r j → i = j) (i j : Fin 1024) (hij : r i = j) : inverse v (ix1 j) = w32 i := by
  unfold inverse
  rw [Host.reduce_eq_fold_single IntOp.addi _ _ _ (show S1024x1024.Reduces [0] S1024 by decide) _ (ix1 j)]
  have hl (k : Fin 1024) : (show S1024x1024.Reduces [0] S1024 by decide).lift (ix1 j) k = ix2 k j := by
    funext a
    match a with
    | ⟨0, _⟩ => rfl
    | ⟨1, _⟩ => rfl
  have hg (k : Fin 1024) : (select
      (cmpi .eq (broadcastInDim S1024x1024 ![0, 1] bcast_S1024x1_S1024x1024_0_1 (broadcastInDim S1024x1 ![0] bcast_S1024_S1024x1_0 v))
        (broadcastInDim S1024x1024 ![0, 1] bcast_S1x1024_S1024x1024_0_1 (broadcastInDim S1x1024 ![1] bcast_S1024_S1x1024_1 (iotaInDim S1024 32 0))))
      (broadcastInDim S1024x1024 ![0, 1] bcast_S1024x1_S1024x1024_0_1 (broadcastInDim S1024x1 ![0] bcast_S1024_S1024x1_0 (iotaInDim S1024 32 0)))
      (broadcastInDim S1024x1024 ![] bcast_S_S1024x1024 (constantI S_ 32 0#32))) (ix2 k j)
      = if r k = j then w32 k else 0#32 := by
    show Scalar.select (IntOp.cmpi .eq (broadcastInDim S1024x1024 _ _ _ (ix2 k j)) (broadcastInDim S1024x1024 _ _ _ (ix2 k j)))
      (broadcastInDim S1024x1024 _ _ _ (ix2 k j)) (broadcastInDim S1024x1024 _ _ _ (ix2 k j)) = _
    rw [bcRows, bcCols, bcRows, bc0, hv]
    show Scalar.select (IntOp.cmpi .eq (w32 (r k)) (w32 j)) (w32 k) 0#32 = _
    have h1 := hlt k k.isLt
    have h2 := j.isLt
    by_cases h : r k = j
    · rw [if_pos h, select_of ((eq_iff _ _).2 (congrArg w32 h))]
    · rw [if_neg h, select_not fun e => h ((w32_inj (by omega) (by omega)).1 ((eq_iff _ _).1 e))]
  refine (fold_one (n := 1024) _ i fun l hne => ?_).trans ?_
  · refine (congrArg _ (hl l)).trans ((hg l).trans (if_neg fun e => hne (Fin.ext (hinj l i l.isLt i.isLt (e.trans hij.symm)))))
  · exact (congrArg _ (hl i)).trans ((hg i).trans (if_pos hij))

end Cert.Exchange
-- ==== Proof.Sched.lean ====
/- The protocol of the exchange: the semaphore cells, the pieces of memory each signal and each landing hands over with
   their contents, and the schedule made of them. Device `c` and its partner `pr c` exchange `N - 1` chunks of 64 rows that
   land in the result at once, and one further chunk, number 16 below, that lands in the scratch block and is merged. -/
module
public import proofs.«01_k».proof.Proof.Words
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × UR sig nD τ
abbrev MM (F : FTy → Type) [FloatOps F] : Type := MT nD τ sig Unit (Elt F) ℕ UU ℕ
abbrev EP : Emb (UR sig nD τ) (MM F) := embL
abbrev ER : Emb (UR sig nD τ) (MM F) := embR
abbrev 𝒱₀ : Variants := Variants.none

/-! ## The buffers and their rows -/

abbrev bigL (c : Dev nD) : Loc nD τ sig := (c : Thread nD τ).loc cc0_stg1_0
abbrev outL (c : Dev nD) : Loc nD τ sig := (c : Thread nD τ).loc cc0_stg2_0
abbrev padL (c : Dev nD) : Loc nD τ sig := (c : Thread nD τ).loc cc0_scratch0

/-- The elements of 64 rows, the first of them row `a`, of an array of `n` rows. -/
def rows (n a : ℕ) : Finset (Shape.Idx ⟨2, ![n, 512]⟩) := Finset.univ.filter fun i => a ≤ (i 0).val ∧ (i 0).val < a + 64

theorem mem_rows {n a : ℕ} {i : Shape.Idx ⟨2, ![n, 512]⟩} : i ∈ rows n a ↔ a ≤ (i 0).val ∧ (i 0).val < a + 64 := by
  unfold rows; rw [Finset.mem_filter]; exact and_iff_right (Finset.mem_univ _)

theorem rows_disjoint {n a b : ℕ} (h : a + 64 ≤ b ∨ b + 64 ≤ a) : Disjoint (rows n a) (rows n b) :=
  Finset.disjoint_left.mpr fun i hi hj => by rw [mem_rows] at hi hj; omega

theorem unit_set {n a : ℕ} {off : Fin 2 → ℕ} (ho : off = ![a, 0])
    (h : ∀ x, off x + S64x512.size x ≤ (⟨2, ![n, 512]⟩ : Shape).size x) :
    (Rect.unit (s := ⟨2, ![n, 512]⟩) off S64x512.size h).set = rows n a := by
  subst ho
  ext i
  rw [Rect.mem_set_unit, mem_rows]
  constructor
  · intro hh; exact hh 0
  · intro hh x
    match x with
    | 0 => exact hh
    | 1 => exact ⟨Nat.zero_le _, by have := (i 1).isLt; simpa using this⟩

/-- The element of the sorted buffer in row `r`, column `j`. -/
def bix (r : ℕ) (j : Fin 512) : S2048x512.Idx := fun a => match a with
  | 0 => ⟨r % 2048, Nat.mod_lt _ (by decide)⟩
  | 1 => j

theorem bix_self (i : S2048x512.Idx) : bix (i 0).val (i 1) = i := by
  funext a
  match a with
  | 0 => exact Fin.ext (Nat.mod_eq_of_lt (i 0).isLt)
  | 1 => rfl

/-! ## The semaphores -/

abbrev barS : Sem sig := barrier0
/-- Chunk `k`'s semaphores, on its sender and on its receiver. -/
def sendS (k : ℕ) : DmaSem sig := ⟨if k < 16 then 3 + k else 35, by show _ < 37; split <;> omega⟩
def recvS (k : ℕ) : DmaSem sig := ⟨if k < 16 then 19 + k else 36, by show _ < 37; split <;> omega⟩

theorem sendS_val {k : ℕ} (h : k < 16) : (sendS k).val = 3 + k := if_pos h
theorem recvS_val {k : ℕ} (h : k < 16) : (recvS k).val = 19 + k := if_pos h

abbrev barCell (c : Dev nD) : GSem nD τ sig := ((c : Thread nD τ), .reg barS)
abbrev sendCell (c : Dev nD) (k : ℕ) : GSem nD τ sig := ((c : Thread nD τ), .dma (sendS k))
abbrev recvCell (c : Dev nD) (k : ℕ) : GSem nD τ sig := ((c : Thread nD τ), .dma (recvS k))

/-- Chunk `k` is sent, `N` of them in all: the first `N - 1`, and the merged one. -/
def act (N k : ℕ) : Prop := if k < 16 then k + 1 < N else 0 < N
instance (N k : ℕ) : Decidable (act N k) := by unfold act; infer_instance
theorem act_lt {N k : ℕ} (h : k < 16) : act N k ↔ k + 1 < N := by unfold act; rw [if_pos h]
theorem act_pad {N : ℕ} : act N 16 ↔ 0 < N := by unfold act; rw [if_neg (by decide)]

/-- Chunk `k`'s place in the order of sending. -/
def tk (N k : ℕ) : ℕ := if k < 16 then k else N - 1

abbrev amt : ℕ := (Memref.whole cc0_scratch0 : Memref sig .tc .vmem S64x512 .f32).view.dmaCredit
theorem amt_pos : 0 < amt := View.dmaCredit_pos _ (by decide)

section Payloads

variable (N : ℕ) (B : Dev nD → S2048x512.Idx → Elt F .f32) (t : Dev nD → ℕ)

/-- The result on device `c`: its own rows, and the partner's where they are not its own. -/
def OUT (c : Dev nD) : S1024x512.Idx → Elt F .f32 := fun i =>
  if own c (t c) (i 0).val then B c (bix (i 0).val (i 1)) else B (pr c) (bix (1024 + (i 0).val) (i 1))
/-- What lands in device `c`'s scratch block: the last chunk the partner sends. -/
def PAD (c : Dev nD) : S64x512.Idx → Elt F .f32 := fun i => B (pr c) (bix (1024 + 64 * ch (pr c) (N - 1) + (i 0).val) (i 1))

/-- The first row of the chunk sent `k`-th, in the sender's sorted buffer. -/
abbrev srcRow (c : Dev nD) (k : ℕ) : ℕ := 1024 + 64 * ch c (tk N k)
def srcPts (c : Dev nD) (k : ℕ) : sProp (MM F) := bigL c ↦[rows 2048 (srcRow N c k)]{fullShare} B c
/-- Where device `c`'s chunk `k` lands, at contents not chosen: on the partner. -/
def dstAny (c : Dev nD) (k : ℕ) : sProp (MM F) :=
  if k < 16 then iprop(∃ f : Buf (Elt F) (outL (pr c)), outL (pr c) ↦[rows 1024 (64 * ch c k)]{fullShare} f)
  else iprop(∃ f : Buf (Elt F) (padL (pr c)), padL (pr c) ↦{fullShare} f)
/-- Device `c`'s piece that the partner's chunk `k` landed in. -/
def landed (c : Dev nD) (k : ℕ) : sProp (MM F) :=
  if k < 16 then outL c ↦[rows 1024 (64 * ch (pr c) k)]{fullShare} OUT B t c
  else padL c ↦{fullShare} PAD N B c

/-- Paid to device `c`'s barrier cell by the partner: the pieces of the partner's that `c` writes, the partner's cells open. -/
def barPay (c : Dev nD) : sProp (MM F) :=
  bigSep (Finset.range 17) fun k => iprop((if act N k then dstAny c k else emp) ∗ reached ER (recvCell (pr c) k) 0)

/-- The transfer a DMA semaphore serves and the side of it. -/
def dmaPay (c : Dev nD) (d : ℕ) : sProp (MM F) :=
  if d < 19 then srcPts N B c (d - 3) else if d < 35 then landed N B t c (d - 19)
  else if d = 35 then srcPts N B c 16 else landed N B t c 16
def dmaDuty (d : ℕ) : Prop :=
  if d < 3 then False else if d < 19 then act N (d - 3) else if d < 35 then act N (d - 19) else act N 16
instance (d : ℕ) : Decidable (dmaDuty N d) := by unfold dmaDuty; infer_instance
def semDuty : SemLoc sig → Prop
  | .reg _ => True
  | .dma d => dmaDuty N d.val
instance (s : SemLoc sig) : Decidable (semDuty N s) := by cases s <;> (unfold semDuty; infer_instance)
def semPay (c : Dev nD) : SemLoc sig → sProp (MM F)
  | .reg _ => barPay N c
  | .dma d => dmaPay N B t c d.val
def semAmt : SemLoc sig → ℕ
  | .reg _ => 1
  | .dma _ => amt

/-- Every semaphore is used for one round at most, by one signal or one landing. -/
def Rd : Rounds.Schedule (GSem nD τ sig) Unit (MM F) where
  duties g r := if r = 0 ∧ g.1.2 = .tc ∧ semDuty N g.2 then {()} else ∅
  unitless _ := False
  amount g _ _ := semAmt g.2
  payload g _ _ := semPay N B t g.1.1 g.2
  amount_pos g _ _ _ := by
    cases g.2 with
    | reg _ => exact Nat.one_pos
    | dma _ => exact amt_pos

instance srcPts_storable (c : Dev nD) (k : ℕ) : BI.Storable (upEmb : UEmb _ (MM F)) (srcPts N B c k) := by
  unfold srcPts; infer_instance
instance dstAny_storable (c : Dev nD) (k : ℕ) : BI.Storable (upEmb : UEmb _ (MM F)) (dstAny c k) := by
  unfold dstAny; split <;> infer_instance
instance landed_storable (c : Dev nD) (k : ℕ) : BI.Storable (upEmb : UEmb _ (MM F)) (landed N B t c k) := by
  unfold landed; split <;> infer_instance

instance Rd_payload_storable (g : GSem nD τ sig) (r : ℕ) (d : Unit) :
    BI.Storable (upEmb : UEmb _ (MM F)) ((Rd N B t).payload g r d) := by
  show BI.Storable upEmb (semPay N B t g.1.1 g.2)
  cases g.2 with
  | reg _ =>
    show BI.Storable upEmb (barPay N g.1.1)
    unfold barPay
    have : ∀ k, BI.Storable (upEmb : UEmb _ (MM F))
        (iprop((if act N k then dstAny g.1.1 k else emp) ∗ reached ER (recvCell (pr g.1.1) k) 0) : sProp (MM F)) := by
      intro k
      split <;> infer_instance
    infer_instance
  | dma d =>
    show BI.Storable upEmb (dmaPay N B t g.1.1 d.val)
    unfold dmaPay
    (repeat' split) <;> infer_instance

/-! ## The schedule, cell by cell -/

theorem semDuty_send {k : ℕ} (hk : k < 17) : semDuty N (.dma (sendS k)) ↔ act N k := by
  show dmaDuty N (sendS k).val ↔ _
  by_cases h : k < 16
  · rw [sendS_val h]; unfold dmaDuty; rw [if_neg (by omega), if_pos (by omega), Nat.add_sub_cancel_left]
  · obtain rfl : k = 16 := by omega
    exact Iff.rfl
theorem semDuty_recv {k : ℕ} (hk : k < 17) : semDuty N (.dma (recvS k)) ↔ act N k := by
  show dmaDuty N (recvS k).val ↔ _
  by_cases h : k < 16
  · rw [recvS_val h]; unfold dmaDuty; rw [if_neg (by omega), if_neg (by omega), if_pos (by omega), Nat.add_sub_cancel_left]
  · obtain rfl : k = 16 := by omega
    exact Iff.rfl

variable (c : Dev nD)

theorem duties_of {g : GSem nD τ sig} (h1 : g.1.2 = .tc) (h : semDuty N g.2) : (Rd N B t).duties g 0 = {()} := by
  dsimp only [Rd]; exact if_pos ⟨rfl, h1, h⟩
theorem duties_none {g : GSem nD τ sig} (h : ¬ semDuty N g.2) (r : ℕ) : (Rd N B t).duties g r = ∅ := by
  dsimp only [Rd]; exact if_neg fun hh => h hh.2.2
theorem duties_later (g : GSem nD τ sig) : ∀ r, 1 ≤ r → (Rd N B t).duties g r = ∅ :=
  fun r hr => by dsimp only [Rd]; rw [if_neg (fun h => by omega)]

theorem expect_of {g : GSem nD τ sig} (h1 : g.1.2 = .tc) (h : semDuty N g.2) : (Rd N B t).expect g 0 = semAmt g.2 := by
  unfold Schedule.expect Schedule.amountOf; rw [duties_of N B t h1 h, Finset.sum_singleton]; rfl
theorem rest_of {g : GSem nD τ sig} (h1 : g.1.2 = .tc) (h : semDuty N g.2) :
    bigSep ((Rd N B t).duties g 0 \ ∅) (fun u => (Rd N B t).payload g 0 u) = semPay N B t g.1.1 g.2 := by
  rw [Finset.sdiff_empty, duties_of N B t h1 h, bigSep_singleton]; rfl

theorem pay_send {k : ℕ} (hk : k < 17) : semPay N B t c (.dma (sendS k)) = srcPts N B c k := by
  show dmaPay N B t c (sendS k).val = _
  by_cases h : k < 16
  · rw [sendS_val h]; unfold dmaPay; rw [if_pos (by omega), Nat.add_sub_cancel_left]
  · obtain rfl : k = 16 := by omega
    rfl
theorem pay_recv {k : ℕ} (hk : k < 17) : semPay N B t c (.dma (recvS k)) = landed N B t c k := by
  show dmaPay N B t c (recvS k).val = _
  by_cases h : k < 16
  · rw [recvS_val h]; unfold dmaPay; rw [if_neg (by omega), if_pos (by omega), Nat.add_sub_cancel_left]
  · obtain rfl : k = 16 := by omega
    rfl

end Payloads

/-! ## What each device owes at launch, and the levels -/

/-- What device `c` owes once its first `s` chunks are under way: the landings of the rest. -/
def Ow (N : ℕ) (c : Dev nD) (s : ℕ) : CellTallies nD τ sig Unit :=
  ∑ k ∈ (Finset.range 17).filter (fun k => act N k ∧ s ≤ k), tallyAt (recvCell (pr c) k) () amt
def O₀ (N : ℕ) (c : Dev nD) : CellTallies nD τ sig Unit := Ow N c 0 + tallyAt (barCell (pr c)) () 1

theorem Ow_step {N : ℕ} {c : Dev nD} {s : ℕ} (hs : s < 17) (h : act N s) :
    Ow N c s = Ow N c (s + 1) + tallyAt (recvCell (pr c) s) () amt := by
  unfold Ow
  have e : (Finset.range 17).filter (fun k => act N k ∧ s ≤ k)
      = insert s ((Finset.range 17).filter (fun k => act N k ∧ s + 1 ≤ k)) := by
    ext k
    simp only [Finset.mem_filter, Finset.mem_range, Finset.mem_insert]
    constructor
    · rintro ⟨h1, h2, h3⟩
      by_cases hk : k = s
      · exact .inl hk
      · exact .inr ⟨h1, h2, by omega⟩
    · rintro (rfl | ⟨h1, h2, h3⟩)
      · exact ⟨hs, h, le_refl _⟩
      · exact ⟨h1, h2, by omega⟩
  rw [e, Finset.sum_insert (fun hh => by have := (Finset.mem_filter.mp hh).2.2; omega), add_comm]
theorem Ow_skip {N : ℕ} {c : Dev nD} {s : ℕ} (h : ¬ act N s) : Ow N c s = Ow N c (s + 1) := by
  unfold Ow
  congr 1
  refine Finset.filter_congr fun k _ => and_congr_right fun ha => ⟨fun hk => ?_, fun hk => by omega⟩
  rcases Nat.lt_or_ge s k with h1 | h1
  · exact h1
  · exact absurd (by rwa [show k = s by omega] at ha) h
theorem Ow_done (N : ℕ) (c : Dev nD) : Ow N c 17 = 0 := by
  unfold Ow
  rw [Finset.filter_false_of_mem, Finset.sum_empty]
  intro k hk
  have := Finset.mem_range.mp hk
  omega

def L (g : GSem nD τ sig) : Finset Unit := if g.1.2 = .tc then {()} else ∅
/-- The barrier cells lie below the cells the chunks land on, the others below both. -/
def lv (g : GSem nD τ sig) (_ : Unit) : ℕ := match g.2 with
  | .reg _ => 1
  | .dma d => if d.val < 19 ∨ d.val = 35 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) {k : ℕ} (hk : k < 17) : lv (recvCell c k) () = 2 := by
  show (if (recvS k).val < 19 ∨ (recvS k).val = 35 then 0 else 2) = 2
  unfold recvS
  dsimp only
  rw [if_neg]
  split <;> omega

theorem Ow_pos {N : ℕ} {c : Dev nD} {s : ℕ} {g : GSem nD τ sig} {u : Unit} (h : 0 < Ow N c s g u) :
    ∃ k < 17, g = recvCell (pr c) k := by
  unfold Ow at h
  by_contra hne
  push Not at hne
  rw [Finset.sum_apply, Finsupp.finset_sum_apply, Finset.sum_eq_zero] at h
  · omega
  · intro k hk
    rw [tallyAt_apply, if_neg]
    exact fun hh => hne k (Finset.mem_range.mp (Finset.mem_filter.mp hk).1) hh.1

theorem mayWait_bar (N : ℕ) (c : Dev nD) :
    (levAts L lv : sProp (MM F)) ⊢ MayWait (c : Thread nD τ) (.reg barS) () (Ow N c 0) :=
  MayOwe.of_cut (L := L) (lev := lv) 1 (fun p hp => by rw [Finset.mem_singleton.mp hp, L_tc]; exact Finset.mem_singleton_self _)
    (fun g u hg => by
      obtain ⟨k, hk, rfl⟩ := Ow_pos hg
      rw [L_tc]; exact Finset.mem_singleton_self _)
    (fun p hp => by rw [Finset.mem_singleton.mp hp]; exact le_refl 1)
    (fun g u hg => by
      obtain ⟨k, hk, rfl⟩ := Ow_pos hg
      rw [lv_recv _ hk]; decide)

end Cert.Exchange
-- ==== Proof.Pre.lean ====
/- What a precondition says of the destinations: each is 0 or 1, half of them are zero, and the first half's ones fill the stated number of chunks. -/
module
public import proofs.«01_k».proof.Proof.Reads
public import proofs.«01_k».proof.Proof.Sched
public import proofs.«01_k».proof.Proof.Gen.Pre_chunks8_Kernel
public import Idealize.ShloMosaic.PureOps.BitExact

@[expose] public section

noncomputable section

namespace Cert.Exchange

open Idealize.ShloMosaic Cert.Pre_chunks8_Kernel Cert.Pre_chunks8_Kernel.Gen
open Idealize.ShloMosaic.Routing Idealize.ShloMosaic.ValueIdx

/-- The destinations are zeros and ones in equal number, and the first half's ones fill `N` chunks of 64. -/
structure Spread (N : ℕ) (d : IVec S2048 32) : Prop where
  bits : ∀ i : Fin 2048, d (ix1 i) = 0#32 ∨ d (ix1 i) = 1#32
  even : Nat.count (zero d) 1024 + Nat.count (second (zero d)) 1024 = 1024
  chunks : (1024 - Nat.count (zero d) 1024 + 63) / 64 = N

theorem and_one : ∀ a b : BitVec 1, IntOp.andi a b = 1#1 ↔ a = 1#1 ∧ b = 1#1 := by decide
theorem or_one : ∀ a b : BitVec 1, IntOp.ori a b = 1#1 ↔ a = 1#1 ∨ b = 1#1 := by decide

/-- The zeros a predicate counts in the 1024 entries that start at `o`. -/
def tally (d : IVec S2048 32) (o : ℕ) (hs : S2048.Slices ![o] S1024) : IVec S_ 32 :=
  Host.reduce IntOp.addi (extui 32 (cmpi .eq (extractStridedSlice S1024 ![o] d hs) (broadcastInDim S1024 ![] bcast_S_S1024 (constantI S_ 32 0#32))) natLt_1_32)
    (constantI S_ 32 0#32) reducesTo_S1024_S_d0 h_S_

theorem counted (d : IVec S2048 32) (o : ℕ) (ho : o + 1024 ≤ 2048) (hs : S2048.Slices ![o] S1024) (i : S_.Idx) :
    tally d o hs i = w32 (Nat.count (fun k => zero d (o + k)) 1024) := by
  have hf (k : Fin 1024) : cmpi .eq (extractStridedSlice S1024 ![o] d hs) (broadcastInDim S1024 ![] bcast_S_S1024 (constantI S_ 32 0#32)) (ix1 k) = 1#1 ↔ zero d (o + k) := by
    have h : o + k.val < 2048 := by have := k.isLt; omega
    show IntOp.cmpi .eq (extractStridedSlice S1024 ![o] d hs (ix1 k)) (broadcastInDim S1024 ![] bcast_S_S1024 (constantI S_ 32 0#32) (ix1 k)) = 1#1 ↔ _
    rw [bc0, slice1 o d hs k h, eq_iff]
    exact ⟨fun e => ⟨h, e⟩, fun e => e.2⟩
  rw [eq_ix0 i]
  refine (reduce_sum _ (fun k => if zero d (o + k) then 1 else 0) (fun k => widened _ (fun k => zero d (o + k)) k (hf k) _) _ _).trans ?_
  rw [sum_map_ite]

theorem divided : ∀ z : Fin 1025, fn_floor_divide (F := Bits) (fun _ => w32 (1024 - z.val + 63)) (constantI S_ 32 64#32) ix0 = w32 ((1024 - z.val + 63) / 64) := by
  decide +kernel

/-- A word in every entry. -/
def everywhere (v : IVec S_ 32) : IVec S2048 32 := broadcastInDim S2048 ![] bcast_S_S2048 v

/-- The predicates' common text, with the number of chunks as a word. -/
def asks (w : BitVec 32) (d : IVec S2048 32) : IVec S2048 1 :=
  andi (andi (ori (cmpi .eq d (everywhere (constantI S_ 32 0#32))) (cmpi .eq d (everywhere (constantI S_ 32 1#32))))
      (broadcastInDim S2048 ![] bcast_S_S2048
        (cmpi .eq (addi (tally d 0 slices_S2048_S1024_0) (tally d 1024 slices_S2048_S1024_1024)) (constantI S_ 32 1024#32))))
    (broadcastInDim S2048 ![] bcast_S_S2048
      (cmpi .eq (fn_floor_divide (F := Bits) (addi (subi (constantI S_ 32 1024#32) (tally d 0 slices_S2048_S1024_0)) (constantI S_ 32 63#32)) (constantI S_ 32 64#32))
        (constantI S_ 32 w)))

theorem spread_of (w : BitVec 32) (d : IVec S2048 32) (h : asks w d = fun _ => 1#1) : Spread w.toNat d := by
  have h0 : Nat.count (fun k => zero d (0 + k)) 1024 = Nat.count (zero d) 1024 := by simp only [Nat.zero_add]
  have e0 (i : S_.Idx) := (counted d 0 (by decide) slices_S2048_S1024_0 i).trans (congrArg w32 h0)
  have e1 (i : S_.Idx) := counted d 1024 (by decide) slices_S2048_S1024_1024 i
  have le0 : Nat.count (zero d) 1024 ≤ 1024 := Nat.count_le _
  have le1 : Nat.count (fun k => zero d (1024 + k)) 1024 ≤ 1024 := Nat.count_le _
  have all (i : Fin 2048) := congrFun h (ix1 i)
  have split (i : Fin 2048) : ((d (ix1 i) = 0#32 ∨ d (ix1 i) = 1#32) ∧ Nat.count (zero d) 1024 + Nat.count (fun k => zero d (1024 + k)) 1024 = 1024)
      ∧ (1024 - Nat.count (zero d) 1024 + 63) / 64 = w.toNat := by
    obtain ⟨h1, h2⟩ := (and_one _ _).1 (all i)
    obtain ⟨h3, h4⟩ := (and_one _ _).1 h1
    refine ⟨⟨?_, ?_⟩, ?_⟩
    · refine ((or_one _ _).1 h3).imp (fun e => ?_) fun e => ?_
      · exact ((eq_iff _ _).1 e).trans (bc0 _ _ _)
      · exact ((eq_iff _ _).1 e).trans (bc0 _ _ _)
    · have h5 := (eq_iff _ _).1 ((bc0 _ _ _).symm.trans h4)
      have h6 : w32 (Nat.count (zero d) 1024) + w32 (Nat.count (fun k => zero d (1024 + k)) 1024) = w32 1024 := by
        rw [← e0 ix0, ← e1 ix0]; exact h5
      rw [w32_add] at h6
      exact (w32_inj (by omega) (by decide)).1 h6
    · have h5 := (eq_iff _ _).1 ((bc0 _ _ _).symm.trans h2)
      have h6 := divided ⟨Nat.count (zero d) 1024, by omega⟩
      refine (w32_toNat (by omega)).symm.trans (congrArg BitVec.toNat (h6.symm.trans (Eq.trans ?_ h5)))
      refine congrFun (congrArg (fn_floor_divide (F := Bits) · (constantI S_ 32 64#32)) (funext fun i => ?_)) ix0
      show _ = w32 1024 - tally d 0 slices_S2048_S1024_0 i + w32 63
      rw [e0, w32_sub le0 (by decide), w32_add]
  exact ⟨fun i => (split i).1.1, (split 0).1.2, (split 0).2⟩

/-- The zeros of the device's half, when its half is the first. -/
theorem zeros_first {c : Dev Cert.KernelIdeal.nD} (h : c.val < 4) (d : IVec S2048 32) : zeros c d = Nat.count (zero d) 1024 := by
  unfold zeros zeroAt base; simp only [if_pos h, Nat.zero_add]

theorem zeros_second {c : Dev Cert.KernelIdeal.nD} (h : ¬ c.val < 4) (d : IVec S2048 32) : zeros c d = Nat.count (second (zero d)) 1024 := by
  unfold zeros zeroAt base second; simp only [if_neg h]

theorem chunks_eq {N : ℕ} {d : IVec S2048 32} (h : Spread N d) (c : Dev Cert.KernelIdeal.nD) : nn c (zeros c d) = N := by
  have h1 : 1024 - Nat.count (zero d) 1024 = Nat.count (second (zero d)) 1024 := by have := h.even; omega
  have h2 := h.chunks
  unfold nn ex
  by_cases hc : c.val < 4
  · rw [if_pos hc, zeros_first hc]; exact h2
  · rw [if_neg hc, zeros_second hc]; rw [h1] at h2; exact h2

end Cert.Exchange
-- ==== Proof.Pieces.lean ====
/- What each transfer and each store writes, as pieces of the result: a landing of chunk `k`, a device's own copy of a
   chunk, and the merged chunk all leave the elements of `OUT`. -/
module
public import proofs.«01_k».proof.Proof.Sched

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev bigM : Memref sig .tc .vmem S2048x512 .f32 := Memref.whole cc0_stg1_0
abbrev outM : Memref sig .tc .vmem S1024x512 .f32 := Memref.whole cc0_stg2_0
abbrev padM : Memref sig .tc .vmem S64x512 .f32 := Memref.whole cc0_scratch0
abbrev cntM : Memref sig .tc .smem S1 .i32 := Memref.whole cc0_stg0_0

abbrev Inb (n : ℕ) (off : Fin 2 → ℕ) : Prop := ∀ x, off x + S64x512.size x ≤ (⟨2, ![n, 512]⟩ : Shape).size x
abbrev bigR (off : Fin 2 → ℕ) (h : Inb 2048 off) : Rect S2048x512 := Rect.unit (s := S2048x512) off S64x512.size h
abbrev outR (off : Fin 2 → ℕ) (h : Inb 1024 off) : Rect S1024x512 := Rect.unit (s := S1024x512) off S64x512.size h
abbrev bigSl (off : Fin 2 → ℕ) (h : Inb 2048 off) : Memref sig .tc .vmem S64x512 .f32 := bigM.slice (bigR off h) (fun _ => rfl)
abbrev outSl (off : Fin 2 → ℕ) (h : Inb 1024 off) : Memref sig .tc .vmem S64x512 .f32 := outM.slice (outR off h) (fun _ => rfl)

theorem bigSl_set {off : Fin 2 → ℕ} {a : ℕ} (ho : off = ![a, 0]) (h : Inb 2048 off) : (bigSl off h).view.set = rows 2048 a :=
  (View.set_slice_whole _ _).trans (unit_set ho h)
theorem outSl_set {off : Fin 2 → ℕ} {a : ℕ} (ho : off = ![a, 0]) (h : Inb 1024 off) : (outSl off h).view.set = rows 1024 a :=
  (View.set_slice_whole _ _).trans (unit_set ho h)
theorem bigAcc_set {off : Fin 2 → ℕ} {a : ℕ} (ho : off = ![a, 0]) (h : Inb 2048 off) :
    (bigM.access (bigR off h)).set = rows 2048 a := (View.set_slice_whole _ _).trans (unit_set ho h)
theorem outAcc_set {off : Fin 2 → ℕ} {a : ℕ} (ho : off = ![a, 0]) (h : Inb 1024 off) :
    (outM.access (outR off h)).set = rows 1024 a := (View.set_slice_whole _ _).trans (unit_set ho h)

/-- The place within a chunk of an element of an array, given that it lies in the chunk's rows. -/
def inChunk {n a : ℕ} (i : Shape.Idx ⟨2, ![n, 512]⟩) (h : a ≤ (i 0).val ∧ (i 0).val < a + 64) : S64x512.Idx := fun x => match x with
  | 0 => ⟨(i 0).val - a, by show _ < 64; omega⟩
  | 1 => i 1

theorem out_emb {off : Fin 2 → ℕ} {a : ℕ} (ho : off = ![a, 0]) (h : Inb 1024 off) {i : S1024x512.Idx} (hi : i ∈ rows 1024 a) :
    (outR off h).emb (inChunk i (mem_rows.mp hi)) = i := by
  subst ho
  have h0 := (mem_rows.mp hi).1
  funext x
  match x with
  | 0 => exact Fin.ext (by show a + 1 * ((i 0).val - a) = (i 0).val; omega)
  | 1 => exact Fin.ext (by show 0 + 1 * (i 1).val = (i 1).val; omega)

theorem big_emb {off : Fin 2 → ℕ} {b : ℕ} (ho : off = ![b, 0]) (h : Inb 2048 off) (x : S64x512.Idx) :
    (bigR off h).emb x = bix (b + (x 0).val) (x 1) := by
  subst ho
  have hb : b + 64 ≤ 2048 := h 0
  have hx : (x 0).val < 64 := (x 0).isLt
  funext y
  match y with
  | 0 => exact Fin.ext (by show b + 1 * (x 0).val = (b + (x 0).val) % 2048; omega)
  | 1 => exact Fin.ext (by show 0 + 1 * (x 1).val = (x 1).val; omega)

section Values

variable {N : ℕ} (B : Dev nD → S2048x512.Idx → Elt F .f32) {t : Dev nD → ℕ}
variable (ht : ∀ c, t c ≤ 1024) (hN : ∀ c, nn c (t c) = N)

include ht hN

theorem own_of_kept (c : Dev nD) {k r : ℕ} (hk : k + N < 16) (h1 : 64 * ch c k ≤ r) (h2 : r < 64 * ch c k + 64) : own c (t c) r := by
  have h3 := hN c
  have h4 := ht c
  unfold nn ex at h3
  unfold ch at h1 h2
  unfold own
  split <;> rename_i hc <;> simp only [hc, if_true, if_false] at h1 h2 h3 <;> omega

theorem not_own_of_sent (c : Dev nD) {k r : ℕ} (hk : k + 1 < N) (h1 : 64 * ch (pr c) k ≤ r) (h2 : r < 64 * ch (pr c) k + 64) :
    ¬ own c (t c) r := by
  have h3 := hN c
  have h4 := ht c
  have h5 := nn_le c h4
  rw [ch_pr c (by omega)] at h1 h2
  unfold nn ex at h3
  unfold ch at h1 h2
  unfold own
  split <;> rename_i hc <;> simp only [hc, if_true, if_false] at h1 h2 h3 <;> omega

theorem OUT_kept (c : Dev nD) {k : ℕ} (hk : k + N < 16) {i : S1024x512.Idx} (hi : i ∈ rows 1024 (64 * ch c k)) :
    OUT B t c i = B c (bix (i 0).val (i 1)) :=
  if_pos (own_of_kept ht hN c hk (mem_rows.mp hi).1 (mem_rows.mp hi).2)

theorem OUT_sent (c : Dev nD) {k : ℕ} (hk : k + 1 < N) {i : S1024x512.Idx} (hi : i ∈ rows 1024 (64 * ch (pr c) k)) :
    OUT B t c i = B (pr c) (bix (1024 + (i 0).val) (i 1)) :=
  if_neg (not_own_of_sent ht hN c hk (mem_rows.mp hi).1 (mem_rows.mp hi).2)

/-- Chunk `k` of device `c` landed on the partner. -/
theorem land_out (c : Dev nD) {k : ℕ} (hk : k < 16) (hkN : k + 1 < N) {off1 off2 : Fin 2 → ℕ} (h1 : Inb 1024 off1) (h2 : Inb 2048 off2)
    (ho1 : off1 = ![64 * ch c k, 0]) (ho2 : off2 = ![1024 + 64 * ch c k, 0]) (fd : Buf (Elt F) (outL (pr c))) :
    ((outSl off1 h1).view.loc ((pr c : Dev nD) : Thread nD τ) ↦[(outSl off1 h1).view.set]{fullShare}
        ((outSl off1 h1).view.write (Elt F) fd ((bigSl off2 h2).view.read (Elt F) (B c)) Finset.univ) : sProp (MM F))
      = landed N B t (pr c) k := by
  unfold landed
  rw [if_pos hk, pr_pr, outSl_set ho1]
  refine pointsTo_congr fun i hi => ?_
  rw [OUT_sent B ht hN (pr c) hkN (by rw [pr_pr]; exact hi), pr_pr]
  have e : (outSl off1 h1).view.emb (inChunk i (mem_rows.mp hi)) = i := out_emb ho1 h1 hi
  conv_lhs => rw [← e]
  rw [View.write_emb_of_mem _ _ (Finset.mem_univ _)]
  show B c ((bigR off2 h2).emb (inChunk i (mem_rows.mp hi))) = _
  rw [big_emb ho2]
  congr 2
  have := (mem_rows.mp hi).1
  show 1024 + 64 * ch c k + ((i 0).val - 64 * ch c k) = _
  omega

omit ht hN in
/-- The merged chunk of device `c` landed in the partner's scratch block. -/
theorem land_pad (c : Dev nD) {off2 : Fin 2 → ℕ} (h2 : Inb 2048 off2)
    (ho2 : off2 = ![1024 + 64 * ch c (N - 1), 0]) (fd : Buf (Elt F) (padL (pr c))) :
    (padM.view.loc ((pr c : Dev nD) : Thread nD τ) ↦[padM.view.set]{fullShare}
        (padM.view.write (Elt F) fd ((bigSl off2 h2).view.read (Elt F) (B c)) Finset.univ) : sProp (MM F))
      = landed N B t (pr c) 16 := by
  unfold landed
  rw [if_neg (by decide)]
  have e : padM.view.write (Elt F) fd ((bigSl off2 h2).view.read (Elt F) (B c)) Finset.univ = PAD N B (pr c) := by
    refine (View.write_whole_univ _ _ _).trans ?_
    funext x
    show B c ((bigR off2 h2).emb x) = _
    rw [big_emb ho2]
    unfold PAD
    rw [pr_pr]
  rw [e, show padM.view.set = Finset.univ from View.set_whole _]

/-- The store of a chunk that a device keeps. -/
theorem kept_out (c : Dev nD) {k : ℕ} (hk : k + N < 16) {off1 off2 : Fin 2 → ℕ} (h1 : Inb 1024 off1) (h2 : Inb 2048 off2)
    (ho1 : off1 = ![64 * ch c k, 0]) (ho2 : off2 = ![64 * ch c k, 0]) (fd : Buf (Elt F) (outL c)) :
    ((outM.access (outR off1 h1)).loc (c : Thread nD τ) ↦[rows 1024 (64 * ch c k)]{fullShare}
        ((outM.access (outR off1 h1)).write (Elt F) fd ((bigM.access (bigR off2 h2)).read (Elt F) (B c)) Finset.univ) : sProp (MM F))
      = outL c ↦[rows 1024 (64 * ch c k)]{fullShare} OUT B t c := by
  refine pointsTo_congr fun i hi => ?_
  rw [OUT_kept B ht hN c hk hi]
  have e : (outM.access (outR off1 h1)).emb (inChunk i (mem_rows.mp hi)) = i := out_emb ho1 h1 hi
  conv_lhs => rw [← e]
  rw [View.write_emb_of_mem _ _ (Finset.mem_univ _)]
  show B c ((bigR off2 h2).emb (inChunk i (mem_rows.mp hi))) = _
  rw [big_emb ho2]
  congr 2
  have := (mem_rows.mp hi).1
  show 64 * ch c k + ((i 0).val - 64 * ch c k) = _
  omega

/-- The merged chunk, row by row the device's own or the landed one. -/
theorem merged_out (c : Dev nD) (hp : 0 < N) {off1 off2 : Fin 2 → ℕ} (h1 : Inb 1024 off1) (h2 : Inb 2048 off2)
    (ho1 : off1 = ![64 * ch c (16 - N), 0]) (ho2 : off2 = ![64 * ch c (16 - N), 0]) (fd : Buf (Elt F) (outL c))
    {w : S64x512.Idx → Elt F .f32}
    (hw : ∀ x, w x = if own c (t c) (64 * ch c (16 - N) + (x 0).val) then (bigM.access (bigR off2 h2)).read (Elt F) (B c) x else PAD N B c x) :
    ((outM.access (outR off1 h1)).loc (c : Thread nD τ) ↦[rows 1024 (64 * ch c (16 - N))]{fullShare}
        ((outM.access (outR off1 h1)).write (Elt F) fd w Finset.univ) : sProp (MM F))
      = outL c ↦[rows 1024 (64 * ch c (16 - N))]{fullShare} OUT B t c := by
  have hle : N ≤ 16 := hN c ▸ nn_le c (ht c)
  refine pointsTo_congr fun i hi => ?_
  have e : (outM.access (outR off1 h1)).emb (inChunk i (mem_rows.mp hi)) = i := out_emb ho1 h1 hi
  conv_lhs => rw [← e]
  rw [View.write_emb_of_mem _ _ (Finset.mem_univ _)]
  refine (hw _).trans ?_
  have h0 := (mem_rows.mp hi).1
  have hr : 64 * ch c (16 - N) + (inChunk i (mem_rows.mp hi) 0).val = (i 0).val := by
    show 64 * ch c (16 - N) + ((i 0).val - 64 * ch c (16 - N)) = _
    omega
  unfold OUT
  rw [hr]
  split
  · show B c ((bigR off2 h2).emb (inChunk i (mem_rows.mp hi))) = _
    rw [big_emb ho2, hr]; rfl
  · unfold PAD
    rw [ch_pr c (by omega), show 15 - (N - 1) = 16 - N by omega, Nat.add_assoc, hr]; rfl

end Values

end Cert.Exchange
-- ==== Proof.Steps.lean ====
/- The state of a device between two operations of the kernel's body, and one lemma for each kind of operation: how it
   moves the state, guarded or not. -/
module
public import proofs.«01_k».proof.Proof.Pieces

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Take item `k` out of a list of items, to put another back: the others are the same in both lists. -/
theorem bigSep_swap {n k : ℕ} {Φ Ψ : ℕ → sProp (MM F)} (hk : k < n) (h : ∀ j, j ≠ k → Φ j = Ψ j) :
    bigSep (Finset.range n) Φ ⊢ iprop(Φ k ∗ (Ψ k -∗ bigSep (Finset.range n) Ψ)) := by
  have split (X : ℕ → sProp (MM F)) : bigSep (Finset.range n) X = iprop(X k ∗ bigSep ((Finset.range n).erase k) X) :=
    bigSep_erase (Finset.mem_range.mpr hk)
  rw [split, split, bigSep_congr (Ψ := Ψ) (s := (Finset.range n).erase k) (fun j hj => h j (Finset.ne_of_mem_erase hj))]
  iintro ⟨H, Hr⟩
  isplitl [H]; · iexact H
  iintro H
  isplitl [H]; · iexact H
  iexact Hr

section State

variable (N : ℕ) (B : Dev nD → S2048x512.Idx → Elt F .f32) (t : Dev nD → ℕ) (K : GSem nD τ sig → ℕ) (c : Dev nD)

/-- The invariants device `c` opens for its transfers, and that its own sending cells are open. Persistent. -/
def inv : sProp (MM F) := bigSep (Finset.range 17) fun k =>
  iprop(cellInv ER (Rd N B t) (K (sendCell c k)) (sendCell c k) ∗ cellInv ER (Rd N B t) (K (recvCell c k)) (recvCell c k)
    ∗ cellInv ER (Rd N B t) (K (recvCell (pr c) k)) (recvCell (pr c) k) ∗ reached ER (sendCell c k) 0)
instance inv_persistent : BI.Persistent (inv N B t K c) := by unfold inv; infer_instance
theorem inv_at {k : ℕ} (hk : k < 17) : inv N B t K c ⊢
    iprop(cellInv ER (Rd N B t) (K (sendCell c k)) (sendCell c k) ∗ cellInv ER (Rd N B t) (K (recvCell c k)) (recvCell c k)
      ∗ cellInv ER (Rd N B t) (K (recvCell (pr c) k)) (recvCell (pr c) k) ∗ reached ER (sendCell c k) 0) :=
  bigSep_elim (Finset.mem_range.mpr hk)

/-- Chunk `k` on its sender, `s` chunks under way and `w` of them confirmed. -/
def sf (s w k : ℕ) : sProp (MM F) :=
  if act N k then
    if k < w then iprop(srcPts N B c k ∗ atPos ER (sendCell c k) 1 ∅ 0)
    else if k < s then iprop(cred (tallyAt (sendCell c k) () amt) ∗ atPos ER (sendCell c k) 0 ∅ 0)
    else iprop(srcPts N B c k ∗ dstAny c k ∗ dutyTok ER (sendCell c k) 0 () ∗ dutyTok ER (recvCell (pr c) k) 0 ()
      ∗ reached ER (recvCell (pr c) k) 0 ∗ atPos ER (sendCell c k) 0 ∅ 0)
  else atPos ER (sendCell c k) 0 ∅ 0

/-- Chunk `k` on its receiver, `r` chunks waited for. -/
def rf (r k : ℕ) : sProp (MM F) :=
  if act N k then
    if k < r then iprop(landed N B t c k ∗ atPos ER (recvCell c k) 1 ∅ 0)
    else iprop(cred (tallyAt (recvCell c k) () amt) ∗ atPos ER (recvCell c k) 0 ∅ 0)
  else atPos ER (recvCell c k) 0 ∅ 0

abbrev outDone (i : ℕ) : sProp (MM F) := outL c ↦[rows 1024 (64 * ch c i)]{fullShare} OUT B t c
abbrev outAny (i : ℕ) : sProp (MM F) :=
  iprop(∃ f : Buf (Elt F) (outL c), outL c ↦[rows 1024 (64 * ch c i)]{fullShare} f)
/-- Chunk `i` of the result, if the device writes it itself, `o` of them written; the merged one is the last. -/
def of (o i : ℕ) : sProp (MM F) :=
  if i + N < 16 then (if i < o then outDone B t c i else outAny c i)
  else if i + N = 16 then (if o = 17 then outDone B t c i else outAny c i)
  else iprop(emp)

/-- The elements of the sorted buffer that are not sent. -/
def keptS : Finset S2048x512.Idx := Finset.univ \ ((Finset.range 17).filter fun k => act N k).biUnion fun k => rows 2048 (srcRow N c k)
theorem rows_kept {k : ℕ} (hk : k < 16) : rows 2048 (64 * ch c k) ⊆ keptS N c := by
  intro i hi
  have h1 := ch_lt c hk
  have h2 := mem_rows.mp hi
  refine Finset.mem_sdiff.mpr ⟨Finset.mem_univ _, fun h => ?_⟩
  obtain ⟨j, -, hj⟩ := Finset.mem_biUnion.mp h
  have h3 : 1024 + 64 * ch c (tk N j) ≤ (i 0).val := (mem_rows.mp hj).1
  omega

/-- Device `c` with `s` chunks sent, `o` written by itself, `r` received, `w` confirmed. -/
def St (s o r w : ℕ) : sProp (MM F) :=
  iprop(inv N B t K c ∗ bigSep (Finset.range 17) (sf N B c s w) ∗ bigSep (Finset.range 17) (rf N B t c r)
    ∗ bigSep (Finset.range 16) (of N B t c o) ∗ (bigL c ↦[keptS N c]{fullShare} B c)
    ∗ ∃ W, owes (c : Thread nD τ) (Ow N c s) W)

variable {N B t K c}

theorem sf_congr {s w s' w' j : ℕ} (h1 : act N j → (j < w ↔ j < w')) (h2 : act N j → (j < s ↔ j < s')) :
    sf N B c s w j = sf N B c s' w' j := by
  unfold sf
  by_cases h : act N j
  · simp only [h1 h, h2 h]
  · rw [if_neg h, if_neg h]
theorem rf_congr {r r' j : ℕ} (h1 : act N j → (j < r ↔ j < r')) : rf N B t c r j = rf N B t c r' j := by
  unfold rf
  by_cases h : act N j
  · simp only [h1 h]
  · rw [if_neg h, if_neg h]

theorem ne_of_act {j k : ℕ} (h : ¬ act N k) (hj : act N j) : j ≠ k := fun e => h (e ▸ hj)

theorem St_skip_send {s : ℕ} (h : ¬ act N s) : St N B t K c s 0 0 0 = St N B t K c (s + 1) 0 0 0 := by
  have e : sf N B c s 0 = sf N B c (s + 1) 0 :=
    funext fun j => sf_congr (fun _ => Iff.rfl) fun hj => by have := ne_of_act h hj; omega
  unfold St
  rw [Ow_skip h, e]
theorem St_skip_recv {s o r w : ℕ} (h : ¬ act N r) : St N B t K c s o r w = St N B t K c s o (r + 1) w := by
  have e : rf N B t c r = rf N B t c (r + 1) := funext fun j => rf_congr fun hj => by have := ne_of_act h hj; omega
  unfold St
  rw [e]
theorem St_skip_conf {s o r w : ℕ} (h : ¬ act N w) : St N B t K c s o r w = St N B t K c s o r (w + 1) := by
  have e : sf N B c s w = sf N B c s (w + 1) :=
    funext fun j => sf_congr (fun hj => by have := ne_of_act h hj; omega) fun _ => Iff.rfl
  unfold St
  rw [e]
theorem of_congr {o o' j : ℕ} (h1 : j + N < 16 → (j < o ↔ j < o')) (h2 : j + N = 16 → (o = 17 ↔ o' = 17)) :
    of N B t c o j = of N B t c o' j := by
  unfold of
  by_cases h : j + N < 16
  · rw [if_pos h, if_pos h]; simp only [h1 h]
  · rw [if_neg h, if_neg h]
    by_cases h' : j + N = 16
    · simp only [h2 h']
    · rw [if_neg h', if_neg h']

end State

abbrev run {α : Type} (c : Dev nD) (p : Prog (TpuEff nD τ sig (Elt F) Λ₀ .tc) α) (Q : α → sProp (MM F)) : sProp (MM F) :=
  wp frame (wpE (defs₀ (F := F)) 𝒱₀ (c : Thread nD τ) none) Set.univ p Q

section Steps

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {α : Type} {R : sProp (MM F)} {Q : α → sProp (MM F)} {b : BitVec 1} {kp : Prog (TpuEff nD τ sig (Elt F) Λ₀ .tc) α}

include ht hN

/-- Chunk `k` goes out, into the result or into the scratch block. -/
theorem send_core {k : ℕ} (hk : k < 17) (ha : act N k) {off2 : Fin 2 → ℕ} {h2 : Inb 2048 off2}
    (ho2 : off2 = ![srcRow N c k, 0]) {d : Dev nD} (hd : d = pr c) {sS sR : DmaSem sig} (hsS : sS = sendS k) (hsR : sR = recvS k)
    {dst : Memref sig .tc .vmem S64x512 .f32} {hsc : dst.view.ref.isScScratch = false}
    {hw1 : (bigSl off2 h2).view.WordExact} {hw2 : dst.view.WordExact}
    {hty : DmaTarget.Typed .vmem (.dma sR) (.remote (Dev.tc d) dst (.dma sS) hsc)}
    (hany : dstAny c k ⊢ (iprop(∃ fd, dst.view.loc (d : Thread nD τ) ↦[dst.view.set]{fullShare} fd) : sProp (MM F)))
    (hland : ∀ fd : Buf (Elt F) (dst.view.loc (d : Thread nD τ)),
      (dst.view.loc (d : Thread nD τ) ↦[dst.view.set]{fullShare}
        (dst.view.write (Elt F) fd ((bigSl off2 h2).view.read (Elt F) (B c)) Finset.univ) : sProp (MM F)) ⊢ landed N B t (pr c) k)
    (hamt : dst.view.dmaCredit = amt)
    (hnext : iprop(St N B t K c (k + 1) 0 0 0 ∗ R) ⊢ run c kp Q) :
    iprop(St N B t K c k 0 0 0 ∗ R)
      ⊢ run c (Prog.lift (.enqueueDma (bigSl off2 h2) (.remote (Dev.tc d) dst (.dma sS) hsc) (.dma sR) hw1 hw2 hty) >>= fun _ => kp) Q := by
  subst hd hsS hsR
  show _ ⊢ wp frame _ _ (.op (.enqueueDma (bigSl off2 h2) (.remote (Dev.tc (pr c)) dst (.dma (sendS k)) hsc) (.dma (recvS k)) hw1 hw2 hty) fun _ => kp) Q
  unfold St
  iintro ⟨⟨#Hinv, HS, HV, HF, HB, ⟨%W, HO⟩⟩, HR⟩
  ihave HS := (bigSep_swap (Ψ := sf N B c (k + 1) 0) hk (fun j hj => sf_congr (fun _ => Iff.rfl) fun _ => by omega)) $$ HS
  icases HS with ⟨HS, Hback⟩
  ihave HS := (Entails.of_eq (show sf N B c k 0 k = _ from by
    unfold sf; rw [if_pos ha, if_neg (Nat.not_lt_zero _), if_neg (lt_irrefl _)])) $$ HS
  icases HS with ⟨Hsrc, Hdst, HtS, HtR, #HrR, Hat⟩
  ihave Hdst := hany $$ Hdst
  icases Hdst with ⟨%fd, Hdst⟩
  ihave #HI := (inv_at N B t K c hk) $$ Hinv
  icases HI with ⟨#HIs, -, #HIrp, #HrS⟩
  ihave Hsrc := (Entails.of_eq (show srcPts N B c k = ((bigSl off2 h2).view.loc (c : Thread nD τ) ↦[(bigSl off2 h2).view.set]{fullShare} B c) from by
    unfold srcPts; rw [bigSl_set ho2])) $$ Hsrc
  iapply (Rounds.wp_send_pointsTo 𝒱₀ ER (Rd N B t) (c : Thread nD τ) none (c' := (pr c : Thread nD τ)) (src := bigSl off2 h2) (dst := dst)
      (sS := .dma (sendS k)) (sem := .dma (recvS k)) (q := fullShare) (fs := B c) (κ₁ := K (sendCell c k)) (κ₂ := K (recvCell (pr c) k))
      (r₁ := 0) (r₂ := 0) (d₁ := ()) (d₂ := ()) (fd := fd)
      (by rw [duties_of N B t rfl ((semDuty_send N hk).mpr ha)]; exact Finset.mem_singleton_self _)
      (by rw [duties_of N B t rfl ((semDuty_recv N hk).mpr ha)]; exact Finset.mem_singleton_self _)
      () () amt hamt rfl rfl (Ow N c (k + 1)) (Ow_step hk ha) (W := W)
      (by rw [show (Rd N B t).payload ((c : Thread nD τ), .dma (sendS k)) 0 () = srcPts N B c k from pay_send N B t c hk]
          unfold srcPts; rw [bigSl_set ho2])
      (by rw [show (Rd N B t).payload ((pr c : Thread nD τ), .dma (recvS k)) 0 () = landed N B t (pr c) k from pay_recv N B t (pr c) hk]
          exact hland fd)) $$ [Hsrc Hdst HO HtS HtR]
  · isplitr; · iexact HIs
    isplitr; · iexact HIrp
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply hnext
  unfold St
  isplitr [HR]
  · isplitr; · iexact Hinv
    isplitl [Hback Hc Hat]
    · iapply Hback
      iapply (Entails.of_eq (show _ = sf N B c (k + 1) 0 k from by
        unfold sf; rw [if_pos ha, if_neg (Nat.not_lt_zero _), if_pos (Nat.lt_succ_self _)]))
      isplitl [Hc]; · iexact Hc
      iexact Hat
    isplitl [HV]; · iexact HV
    isplitl [HF]; · iexact HF
    isplitl [HB]; · iexact HB
    iexists W; iexact HO
  iexact HR

/-- Chunk `k < 16` goes out, where the guard lets it. -/
theorem send_step {k : ℕ} (hk : k < 16) {off1 off2 : Fin 2 → ℕ} {h1 : Inb 1024 off1} {h2 : Inb 2048 off2}
    (ho1 : off1 = ![64 * ch c k, 0]) (ho2 : off2 = ![1024 + 64 * ch c k, 0]) {d : Dev nD} (hd : d = pr c)
    {sS sR : DmaSem sig} (hsS : sS = sendS k) (hsR : sR = recvS k) {hsc : (outSl off1 h1).view.ref.isScScratch = false}
    {hw1 : (bigSl off2 h2).view.WordExact} {hw2 : (outSl off1 h1).view.WordExact}
    {hty : DmaTarget.Typed .vmem (.dma sR) (.remote (Dev.tc d) (outSl off1 h1) (.dma sS) hsc)}
    (hb : b = 1#1 ↔ k + 1 < N) (hnext : iprop(St N B t K c (k + 1) 0 0 0 ∗ R) ⊢ run c kp Q) :
    iprop(St N B t K c k 0 0 0 ∗ R)
      ⊢ run c (if b = 1#1 then
          Prog.lift (.enqueueDma (bigSl off2 h2) (.remote (Dev.tc d) (outSl off1 h1) (.dma sS) hsc) (.dma sR) hw1 hw2 hty) >>= fun _ => kp
        else kp) Q := by
  by_cases h : k + 1 < N
  · have ha : act N k := (act_lt hk).mpr h
    rw [if_pos (hb.mpr h)]
    refine send_core ht hN (by omega) ha (by rw [ho2]; unfold srcRow tk; rw [if_pos hk]) hd hsS hsR ?_ ?_ rfl hnext
    · subst hd
      unfold dstAny; rw [if_pos hk, outSl_set ho1]
    · subst hd
      intro fd
      exact Entails.of_eq (land_out B ht hN c hk h h1 h2 ho1 ho2 fd)
  · rw [if_neg (fun hh => h (hb.mp hh)), St_skip_send (fun hh => h ((act_lt hk).mp hh))]
    exact hnext

omit ht hN in
/-- A wait for chunk `k`'s landing on this device. -/
theorem recv_core {k o w : ℕ} (hk : k < 17) (ha : act N k) {s : DmaSem sig} (hs : s = recvS k) {sp sp' : Space} {s1 s2 : Shape} {e1 e2 : EltTy} {κ' : Kind}
    {src : Memref sig .tc sp' s1 e1} {dst : Memref sig κ' sp s2 e2} {hw1 : src.view.WordExact} {hw2 : dst.view.WordExact}
    (hamt : dst.view.dmaCredit = amt) (hnext : iprop(St N B t K c 17 o (k + 1) w ∗ R) ⊢ run c kp Q) :
    iprop(St N B t K c 17 o k w ∗ R) ⊢ run c (Prog.lift (.waitDma2 s src dst hw1 hw2) >>= fun _ => kp) Q := by
  subst hs
  show _ ⊢ wp frame _ _ (.op (.waitDma2 (recvS k) src dst hw1 hw2) fun _ => kp) Q
  unfold St
  rw [Ow_done]
  iintro ⟨⟨#Hinv, HS, HV, HF, HB, ⟨%W, HO⟩⟩, HR⟩
  ihave HV := (bigSep_swap (Ψ := rf N B t c (k + 1)) hk (fun j hj => rf_congr fun _ => by omega)) $$ HV
  icases HV with ⟨HV, Hback⟩
  ihave HV := (Entails.of_eq (show rf N B t c k k = _ from by
    unfold rf; rw [if_pos ha, if_neg (lt_irrefl _)])) $$ HV
  icases HV with ⟨Hc, Hat⟩
  ihave #HI := (inv_at N B t K c hk) $$ Hinv
  icases HI with ⟨-, #HIr, -, -⟩
  iapply (Rounds.wp_wait_rest_token 𝒱₀ ER (Rd N B t) (c : Thread nD τ) none (κ := K (recvCell c k))
      (wpE_waitDma2_eq 𝒱₀ (c : Thread nD τ) none Set.univ) (Set.mem_univ _) () (O := 0) (W := W) (R := 0) (m := 0) (T := ∅)
      (by rw [expect_of N B t rfl ((semDuty_recv N hk).mpr ha), Nat.zero_add]; exact hamt)) $$ [Hc HO Hat]
  · isplitr; · iexact HIr
    isplitl [Hc]; · rw [hamt]; iexact Hc
    isplitl [HO]; · iexact HO
    isplitr; · rw [MayWait_zero]; iempintro
    iexact Hat
  iintro ⟨HO, Hat, -, Hpay⟩
  ihave Hpay := (Entails.of_eq ((rest_of N B t rfl ((semDuty_recv N hk).mpr ha)).trans (pay_recv N B t c hk))) $$ Hpay
  iapply hnext
  unfold St
  rw [Ow_done]
  isplitr [HR]
  · isplitr; · iexact Hinv
    isplitl [HS]; · iexact HS
    isplitl [Hback Hpay Hat]
    · iapply Hback
      iapply (Entails.of_eq (show _ = rf N B t c (k + 1) k from by
        unfold rf; rw [if_pos ha, if_pos (Nat.lt_succ_self _)]))
      isplitl [Hpay]; · iexact Hpay
      iexact Hat
    isplitl [HF]; · iexact HF
    isplitl [HB]; · iexact HB
    iexists _; iexact HO
  iexact HR

omit ht hN in
/-- A wait for chunk `k`'s departure. -/
theorem conf_core {k o r : ℕ} (hk : k < 17) (ha : act N k) {s : DmaSem sig} (hs : s = sendS k) {sp sp' : Space} {s1 s2 : Shape} {e1 e2 : EltTy} {κ' : Kind}
    {src : Memref sig .tc sp' s1 e1} {dst : Memref sig κ' sp s2 e2} {hw1 : src.view.WordExact} {hw2 : dst.view.WordExact}
    (hamt : dst.view.dmaCredit = amt) (hnext : iprop(St N B t K c 17 o r (k + 1) ∗ R) ⊢ run c kp Q) :
    iprop(St N B t K c 17 o r k ∗ R) ⊢ run c (Prog.lift (.waitDma2 s src dst hw1 hw2) >>= fun _ => kp) Q := by
  subst hs
  show _ ⊢ wp frame _ _ (.op (.waitDma2 (sendS k) src dst hw1 hw2) fun _ => kp) Q
  unfold St
  rw [Ow_done]
  iintro ⟨⟨#Hinv, HS, HV, HF, HB, ⟨%W, HO⟩⟩, HR⟩
  ihave HS := (bigSep_swap (Ψ := sf N B c 17 (k + 1)) hk (fun j hj => sf_congr (fun _ => by omega) fun _ => Iff.rfl)) $$ HS
  icases HS with ⟨HS, Hback⟩
  ihave HS := (Entails.of_eq (show sf N B c 17 k k = _ from by
    unfold sf; rw [if_pos ha, if_neg (lt_irrefl _), if_pos hk])) $$ HS
  icases HS with ⟨Hc, Hat⟩
  ihave #HI := (inv_at N B t K c hk) $$ Hinv
  icases HI with ⟨#HIs, -, -, -⟩
  iapply (Rounds.wp_wait_rest_token 𝒱₀ ER (Rd N B t) (c : Thread nD τ) none (κ := K (sendCell c k))
      (wpE_waitDma2_eq 𝒱₀ (c : Thread nD τ) none Set.univ) (Set.mem_univ _) () (O := 0) (W := W) (R := 0) (m := 0) (T := ∅)
      (by rw [expect_of N B t rfl ((semDuty_send N hk).mpr ha), Nat.zero_add]; exact hamt)) $$ [Hc HO Hat]
  · isplitr; · iexact HIs
    isplitl [Hc]; · rw [hamt]; iexact Hc
    isplitl [HO]; · iexact HO
    isplitr; · rw [MayWait_zero]; iempintro
    iexact Hat
  iintro ⟨HO, Hat, -, Hpay⟩
  ihave Hpay := (Entails.of_eq ((rest_of N B t rfl ((semDuty_send N hk).mpr ha)).trans (pay_send N B t c hk))) $$ Hpay
  iapply hnext
  unfold St
  rw [Ow_done]
  isplitr [HR]
  · isplitr; · iexact Hinv
    isplitl [Hback Hpay Hat]
    · iapply Hback
      iapply (Entails.of_eq (show _ = sf N B c 17 (k + 1) k from by
        unfold sf; rw [if_pos ha, if_pos (Nat.lt_succ_self _)]))
      isplitl [Hpay]; · iexact Hpay
      iexact Hat
    isplitl [HV]; · iexact HV
    isplitl [HF]; · iexact HF
    isplitl [HB]; · iexact HB
    iexists _; iexact HO
  iexact HR

omit ht hN in
theorem recv_step {k o w : ℕ} (hk : k < 16) {s : DmaSem sig} (hs : s = recvS k) {sp sp' : Space} {s1 s2 : Shape} {e1 e2 : EltTy} {κ' : Kind}
    {src : Memref sig .tc sp' s1 e1} {dst : Memref sig κ' sp s2 e2} {hw1 : src.view.WordExact} {hw2 : dst.view.WordExact}
    (hamt : dst.view.dmaCredit = amt) (hb : b = 1#1 ↔ k + 1 < N) (hnext : iprop(St N B t K c 17 o (k + 1) w ∗ R) ⊢ run c kp Q) :
    iprop(St N B t K c 17 o k w ∗ R)
      ⊢ run c (if b = 1#1 then Prog.lift (.waitDma2 s src dst hw1 hw2) >>= fun _ => kp else kp) Q := by
  by_cases h : k + 1 < N
  · rw [if_pos (hb.mpr h)]
    exact recv_core (by omega) ((act_lt hk).mpr h) hs hamt hnext
  · rw [if_neg (fun hh => h (hb.mp hh)), St_skip_recv (fun hh => h ((act_lt hk).mp hh))]
    exact hnext

omit ht hN in
theorem conf_step {k o r : ℕ} (hk : k < 16) {s : DmaSem sig} (hs : s = sendS k) {sp sp' : Space} {s1 s2 : Shape} {e1 e2 : EltTy} {κ' : Kind}
    {src : Memref sig .tc sp' s1 e1} {dst : Memref sig κ' sp s2 e2} {hw1 : src.view.WordExact} {hw2 : dst.view.WordExact}
    (hamt : dst.view.dmaCredit = amt) (hb : b = 1#1 ↔ k + 1 < N) (hnext : iprop(St N B t K c 17 o r (k + 1) ∗ R) ⊢ run c kp Q) :
    iprop(St N B t K c 17 o r k ∗ R)
      ⊢ run c (if b = 1#1 then Prog.lift (.waitDma2 s src dst hw1 hw2) >>= fun _ => kp else kp) Q := by
  by_cases h : k + 1 < N
  · rw [if_pos (hb.mpr h)]
    exact conf_core (by omega) ((act_lt hk).mpr h) hs hamt hnext
  · rw [if_neg (fun hh => h (hb.mp hh)), St_skip_conf (fun hh => h ((act_lt hk).mp hh))]
    exact hnext

/-- The device keeps chunk `k`, where the guard lets it: read, read what it overwrites, store. -/
theorem kept_step {k : ℕ} (hk : k < 16) {off1 off2 : Fin 2 → ℕ} {h1 : Inb 1024 off1} {h2 : Inb 2048 off2}
    (ho1 : off1 = ![64 * ch c k, 0]) (ho2 : off2 = ![64 * ch c k, 0])
    {hl2 : bigM.view.LoadsAt (bigR off2 h2).toLoadRect} {hl1 : outM.view.LoadsAt (outR off1 h1).toLoadRect}
    {pay : Vec F S64x512 .f32 → FVec F S64x512 .f32} (hpay : ∀ v, pay v = v)
    {hst : (outM.access (outR off1 h1)).Stores Finset.univ} {hm : (Finset.univ : Finset (outR off1 h1).shape.Idx) = Finset.univ ∨ ∀ a, (outR off1 h1).stride a = 1}
    (hb : b = 1#1 ↔ k + N < 16) (hnext : iprop(St N B t K c 17 (k + 1) 0 0 ∗ R) ⊢ run c kp Q) :
    iprop(St N B t K c 17 k 0 0 ∗ R)
      ⊢ run c (if b = 1#1 then
          Prog.lift (.load bigM (bigR off2 h2).toLoadRect hl2) >>= fun v =>
          Prog.lift (.load outM (outR off1 h1).toLoadRect hl1) >>= fun _ =>
          Prog.lift (.store outM (outR off1 h1) (pay v) Finset.univ hst hm) >>= fun _ => kp
        else kp) Q := by
  by_cases h : k + N < 16
  · rw [if_pos (hb.mpr h)]
    show _ ⊢ wp frame _ _ (.op (.load bigM (bigR off2 h2).toLoadRect hl2) fun v =>
      .op (.load outM (outR off1 h1).toLoadRect hl1) fun _ => .op (.store outM (outR off1 h1) (pay v) Finset.univ hst hm) fun _ => kp) Q
    unfold St
    iintro ⟨⟨#Hinv, HS, HV, HF, HB, HO⟩, HR⟩
    ihave HF := (bigSep_swap (Ψ := of N B t c (k + 1)) hk (fun j hj => of_congr (fun _ => by omega) fun _ => by omega)) $$ HF
    icases HF with ⟨HF, Hback⟩
    ihave HF := (Entails.of_eq (show of N B t c k k = outAny c k from by
      unfold of; rw [if_pos h, if_neg (lt_irrefl _)])) $$ HF
    icases HF with ⟨%f, HF⟩
    iapply (wp_load_rect 𝒱₀ (c : Thread nD τ) none Set.univ (m := bigM) (r := bigR off2 h2) (hl := hl2) (S := keptS N c) (f := B c)
      (by rw [bigAcc_set ho2]; exact rows_kept N c hk)) $$ HB
    iintro HB
    iapply (wp_load_rect 𝒱₀ (c : Thread nD τ) none Set.univ (m := outM) (r := outR off1 h1) (hl := hl1) (S := rows 1024 (64 * ch c k)) (f := f)
      (by rw [outAcc_set ho1])) $$ HF
    iintro HF
    iapply (wp_store 𝒱₀ (c : Thread nD τ) none Set.univ (m := outM) (r := outR off1 h1) (S := rows 1024 (64 * ch c k)) (f := f)
      (by rw [View.setOn_univ, outAcc_set ho1])) $$ HF
    iintro HF
    rw [hpay]
    ihave HF := (Entails.of_eq (kept_out B ht hN c h h1 h2 ho1 ho2 f)) $$ HF
    iapply hnext
    unfold St
    isplitr [HR]
    · isplitr; · iexact Hinv
      isplitl [HS]; · iexact HS
      isplitl [HV]; · iexact HV
      isplitl [Hback HF]
      · iapply Hback
        iapply (Entails.of_eq (show _ = of N B t c (k + 1) k from by
          unfold of; rw [if_pos h, if_pos (Nat.lt_succ_self _)]))
        iexact HF
      isplitl [HB]; · iexact HB
      iexact HO
    iexact HR
  · rw [if_neg (fun hh => h (hb.mp hh))]
    have e : of N B t c k = of N B t c (k + 1) :=
      funext fun j => of_congr (fun hj => by constructor <;> (intro; omega)) fun _ => by omega
    have e' : St N B t K c 17 k 0 0 = St N B t K c 17 (k + 1) 0 0 := by unfold St; rw [e]
    rw [e']
    exact hnext

end Steps

end Cert.Exchange
-- ==== Proof.Pay.lean ====
/- The kernel's row mask: the merged chunk keeps exactly the device's own rows. -/
module
public import proofs.«01_k».proof.Proof.Pieces
public import Idealize.ShloMosaic.Lib.Pipeline.Value
@[expose] public section

namespace Cert.Exchange

open Idealize.ShloMosaic Cert.KernelIdeal Cert.KernelIdeal.Gen

variable {F : FTy → Type} [FloatOps F]

/-- The kernel's test of a row of the merged chunk: `±row < ±t` with the sign of the first mesh coordinate. -/
theorem ownW (c : Dev nD) {q : BitVec 32} {a j t : ℕ} (hq : q.toNat = a) (ha : a + j < 1024) (ht : t ≤ 1024) :
    IntOp.cmpi .slt (IntOp.muli (Scalar.subi 1#32 (Scalar.muli 2#32 (xW c))) (IntOp.addi q (BitVec.ofNat 32 j)))
      (Scalar.addi (Scalar.muli (Scalar.subi 1#32 (Scalar.muli 2#32 (xW c))) (w32 t)) (xW c)) = 1#1 ↔ own c t (a + j) := by
  obtain rfl : q = BitVec.ofNat 32 a := by
    apply BitVec.eq_of_toNat_eq; rw [hq, BitVec.toNat_ofNat]; omega
  have e : BitVec.ofNat 32 a + BitVec.ofNat 32 j = BitVec.ofNat 32 (a + j) := (BitVec.ofNat_add _ _).symm
  have key (u v : BitVec 32) : IntOp.cmpi .slt u v = 1#1 ↔ u.toInt < v.toInt := by
    show BitVec.ofBool (u.slt v) = 1#1 ↔ _
    rw [BitVec.slt_eq_decide]
    by_cases h : u.toInt < v.toInt <;> simp [h]
  rw [key, xW_eq]
  unfold own
  show BitVec.toInt ((1#32 - 2#32 * _) * (BitVec.ofNat 32 a + BitVec.ofNat 32 j)) < BitVec.toInt ((1#32 - 2#32 * _) * w32 t + _) ↔ _
  rw [e]
  split
  · simp only [show (1#32 - 2#32 * 0#32) = 1#32 from rfl, BitVec.one_mul, BitVec.add_zero, BitVec.toInt_eq_toNat_cond, BitVec.toNat_ofNat]
    omega
  · have neg : ∀ r : Fin 1025, (4294967295#32 * BitVec.ofNat 32 r).toInt = -(r.val : Int)
        ∧ (4294967295#32 * BitVec.ofNat 32 r + 1#32).toInt = 1 - (r.val : Int) := by decide +kernel
    rw [show (1#32 - 2#32 * 1#32) = 4294967295#32 from rfl, (neg ⟨a + j, by omega⟩).1, (neg ⟨t, by omega⟩).2]
    dsimp only
    omega

theorem pay1_apply (c : Dev nD) {t N : ℕ} (ht : t ≤ 1024) (h0 : 0 < N) (hN : N ≤ 16) (A P : Vec F S64x512 .f32) (x : S64x512.Idx) :
    k0_pay1 (xW c) (w32 t) (xB c) (w32 N) A P x = if own c t (64 * ch c (16 - N) + (x 0).val) then A x else P x := by
  unfold k0_pay1
  rw [shapeCast_self, shapeCast_self]
  have hx : (x 0).val < 64 := (x 0).isLt
  have hc := ch_lt c (k := 16 - N) (by omega)
  have := ownW c (mixW_eq c N h0 hN) (j := (x 0).val) (by omega) ht
  have hz : 0 * 64 + (x 0).val = (x 0).val := by omega
  rw [← hz] at this
  show (if _ = 1#1 then A x else P x) = _
  refine if_congr (Iff.trans ?_ (this.trans (by rw [hz]))) rfl rfl
  exact Iff.rfl

end Cert.Exchange
-- ==== Proof.Pad.lean ====
/- The transfers of the chunk that two devices share, guarded by the kernel's own test that there is one, and the tests of
   the other chunks as facts about their number. -/
module
public import proofs.«01_k».proof.Proof.Steps
public import proofs.«01_k».proof.Proof.Pay

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {R : sProp (MM F)}

theorem guard_sent {v : BitVec 32} (hv : v = w32 N) (hle : N ≤ 16) {k : ℕ} (hk : k < 16) :
    Scalar.cmpi .ne (Scalar.extui (Scalar.cmpi .sgt (Scalar.subi v 1#32) (w32 k)) : BitVec 32) 0#32 = 1#1 ↔ k + 1 < N :=
  hv ▸ cond_send N k hle hk
theorem guard_kept {v : BitVec 32} (hv : v = w32 N) (hle : N ≤ 16) {k : ℕ} (hk : k < 16) :
    Scalar.cmpi .ne (Scalar.extui (Scalar.cmpi .sgt (Scalar.subi 16#32 v) (w32 k)) : BitVec 32) 0#32 = 1#1 ↔ k + N < 16 :=
  hv ▸ cond_own N k hle hk

variable {α : Type} {Q : α → sProp (MM F)} {b : BitVec 1} {kp : Prog (TpuEff nD τ sig (Elt F) Λ₀ .tc) α}

theorem run_pure {P : sProp (MM F)} {a : α} (h : P ⊢ Q a) : P ⊢ run c (pure a) Q := by
  show P ⊢ wp frame _ _ (.ret a) Q
  rw [wp_ret]
  iintro H
  imodintro
  iapply h; iexact H

include ht hN

set_option cleanup.letToHave false

/-- The shared chunk goes out, if there is one. -/
theorem pad_send_step {off2 : Fin 2 → ℕ} {h2 : b = 1#1 → Inb 2048 off2}
    (ho2 : 0 < N → off2 = ![1024 + 64 * ch c (N - 1), 0]) {d : Dev nD} (hd : d = pr c) {sS sR : DmaSem sig} (hsS : sS = sendS 16) (hsR : sR = recvS 16)
    {hsc : padM.view.ref.isScScratch = false} {hw1 : ∀ h, (bigSl off2 (h2 h)).view.WordExact} {hw2 : padM.view.WordExact}
    {hty : DmaTarget.Typed .vmem (.dma sR) (.remote (Dev.tc d) padM (.dma sS) hsc)}
    (hb : b = 1#1 ↔ 0 < N) (hnext : iprop(St N B t K c 17 0 0 0 ∗ R) ⊢ run c kp Q) :
    iprop(St N B t K c 16 0 0 0 ∗ R)
      ⊢ run c (if h : b = 1#1 then
          Prog.lift (.enqueueDma (bigSl off2 (h2 h)) (.remote (Dev.tc d) padM (.dma sS) hsc) (.dma sR) (hw1 h) hw2 hty) >>= fun _ => kp
        else kp) Q := by
  by_cases h : b = 1#1
  · have h0 := hb.mp h
    rw [dif_pos h]
    refine send_core ht hN (by omega) (act_pad.mpr h0) (ho2 h0) hd hsS hsR ?_ ?_ rfl hnext
    · subst hd
      unfold dstAny; rw [if_neg (by decide), show padM.view.set = Finset.univ from View.set_whole _]
    · subst hd
      intro fd
      exact Entails.of_eq (land_pad B c (h2 h) (ho2 h0) fd)
  · rw [dif_neg h, St_skip_send (fun hh => h (hb.mpr (act_pad.mp hh)))]
    exact hnext

omit ht hN in
/-- The wait for the shared chunk's departure, if there is one. -/
theorem pad_conf_step {o r : ℕ} {sp sp' : b = 1#1 → Space} {s1 s2 : Shape} {e1 e2 : EltTy} {κ' : Kind} {s : DmaSem sig} (hs : s = sendS 16)
    {src : (h : b = 1#1) → Memref sig .tc (sp' h) s1 e1} {dst : (h : b = 1#1) → Memref sig κ' (sp h) s2 e2}
    {hw1 : ∀ h, (src h).view.WordExact} {hw2 : ∀ h, (dst h).view.WordExact}
    (hamt : ∀ h, (dst h).view.dmaCredit = amt) (hb : b = 1#1 ↔ 0 < N) (hnext : iprop(St N B t K c 17 o r 17 ∗ R) ⊢ run c kp Q) :
    iprop(St N B t K c 17 o r 16 ∗ R)
      ⊢ run c (if h : b = 1#1 then Prog.lift (.waitDma2 s (src h) (dst h) (hw1 h) (hw2 h)) >>= fun _ => kp else kp) Q := by
  by_cases h : b = 1#1
  · rw [dif_pos h]
    exact conf_core (by omega) (act_pad.mpr (hb.mp h)) hs (hamt h) hnext
  · rw [dif_neg h, St_skip_conf (fun hh => h (hb.mpr (act_pad.mp hh)))]
    exact hnext

omit ht hN in
/-- The scratch block read whole. -/
theorem pad_read (h : ∀ x, (![0, 0] : Fin 2 → ℕ) x + S64x512.size x ≤ S64x512.size x) (f : S64x512.Idx → Elt F .f32) :
    (padM.access (Rect.unit (s := S64x512) ![0, 0] S64x512.size h)).read (Elt F) f = f := by
  funext x
  show f ((Rect.unit (s := S64x512) ![0, 0] S64x512.size h).emb x) = f x
  congr 1
  funext y
  match y with
  | 0 => exact Fin.ext (by show 0 + 1 * (x 0).val = (x 0).val; omega)
  | 1 => exact Fin.ext (by show 0 + 1 * (x 1).val = (x 1).val; omega)

/-- The shared chunk is waited for and merged, if there is one. -/
theorem merged_step {off1 off2 : Fin 2 → ℕ} {h1 : b = 1#1 → Inb 1024 off1} {h2 : b = 1#1 → Inb 2048 off2}
    (ho1 : 0 < N → off1 = ![64 * ch c (16 - N), 0]) (ho2 : 0 < N → off2 = ![64 * ch c (16 - N), 0])
    {h3 : ∀ x, (![0, 0] : Fin 2 → ℕ) x + S64x512.size x ≤ S64x512.size x}
    {s : DmaSem sig} (hs : s = recvS 16) {src : (h : b = 1#1) → Memref sig .tc .vmem S64x512 .f32}
    {hw1 : ∀ h, (src h).view.WordExact} {hw2 : padM.view.WordExact}
    {hl2 : ∀ h, bigM.view.LoadsAt (bigR off2 (h2 h)).toLoadRect} {hl1 : ∀ h, outM.view.LoadsAt (outR off1 (h1 h)).toLoadRect}
    {hl3 : padM.view.LoadsAt (Rect.unit (s := S64x512) ![0, 0] S64x512.size h3).toLoadRect}
    {pay : Vec F S64x512 .f32 → Vec F S64x512 .f32 → FVec F S64x512 .f32}
    (hpay : 0 < N → ∀ A P x, pay A P x = if own c (t c) (64 * ch c (16 - N) + (x 0).val) then A x else P x)
    {p1 : b = 1#1 → Prog (TpuEff nD τ sig (Elt F) Λ₀ .tc) (FVec F S64x512 .f32)}
    (hp1 : ∀ h, p1 h = (Prog.lift (.waitDma2 s (src h) padM (hw1 h) hw2) >>= fun _ =>
      Prog.lift (.load bigM (bigR off2 (h2 h)).toLoadRect (hl2 h)) >>= fun A =>
      Prog.lift (.load padM (Rect.unit (s := S64x512) ![0, 0] S64x512.size h3).toLoadRect hl3) >>= fun P => pure (pay A P)))
    {hst : ∀ h, (outM.access (outR off1 (h1 h))).Stores Finset.univ}
    {hm : ∀ h, (Finset.univ : Finset (outR off1 (h1 h)).shape.Idx) = Finset.univ ∨ ∀ a, (outR off1 (h1 h)).stride a = 1}
    (hb : b = 1#1 ↔ 0 < N) (hnext : iprop(St N B t K c 17 17 17 0 ∗ R) ⊢ run c kp Q) :
    iprop(St N B t K c 17 16 16 0 ∗ R)
      ⊢ run c (if h : b = 1#1 then
          p1 h >>= fun v =>
          Prog.lift (.load outM (outR off1 (h1 h)).toLoadRect (hl1 h)) >>= fun _ =>
          Prog.lift (.store outM (outR off1 (h1 h)) v Finset.univ (hst h) (hm h)) >>= fun _ => kp
        else kp) Q := by
  have hle : N ≤ 16 := hN c ▸ nn_le c (ht c)
  by_cases h : b = 1#1
  · have h0 := hb.mp h
    have hi : 16 - N < 16 := by omega
    rw [dif_pos h, hp1 h]
    simp only [Prog.lift, Prog.bind_op, Prog.bind_ret, Prog.pure_eq_ret]
    generalize hkp : (fun _ : PUnit => (_ : Prog (TpuEff nD τ sig (Elt F) Λ₀ .tc) α)) = kk
    refine recv_core (kp := kk ⟨⟩) (by omega) (act_pad.mpr h0) hs rfl ?_
    subst hkp
    unfold St
    iintro ⟨⟨#Hinv, HS, HV, HF, HB, HO⟩, HR⟩
    ihave HF := (bigSep_swap (Ψ := of N B t c 17) hi (fun j hj => of_congr (fun _ => by omega) fun _ => by omega)) $$ HF
    icases HF with ⟨HF, HFback⟩
    ihave HF := (Entails.of_eq (show of N B t c 16 (16 - N) = outAny c (16 - N) from by
      unfold of; rw [if_neg (by omega), if_pos (by omega), if_neg (by decide)])) $$ HF
    icases HF with ⟨%f, HF⟩
    ihave HV := (bigSep_swap (k := 16) (Ψ := rf N B t c 17) (by decide) (fun j hj => rfl)) $$ HV
    icases HV with ⟨HV, HVback⟩
    have e16 : rf N B t c 17 16 = iprop((padL c ↦{fullShare} PAD N B c) ∗ atPos ER (recvCell c 16) 1 ∅ 0) := by
      unfold rf; rw [if_pos (act_pad.mpr h0), if_pos (by decide)]; rfl
    ihave HV := (Entails.of_eq e16) $$ HV
    icases HV with ⟨HP, Hat⟩
    iapply (wp_load_rect 𝒱₀ (c : Thread nD τ) none Set.univ (m := bigM) (r := bigR off2 (h2 h)) (hl := hl2 h) (S := keptS N c) (f := B c)
      (by rw [bigAcc_set (ho2 h0)]; exact rows_kept N c hi)) $$ HB
    iintro HB
    iapply (wp_load_rect 𝒱₀ (c : Thread nD τ) none Set.univ (m := padM) (r := Rect.unit (s := S64x512) ![0, 0] S64x512.size h3) (hl := hl3)
      (S := Finset.univ) (f := PAD N B c) (Finset.subset_univ _)) $$ HP
    iintro HP
    iapply (wp_load_rect 𝒱₀ (c : Thread nD τ) none Set.univ (m := outM) (r := outR off1 (h1 h)) (hl := hl1 h) (S := rows 1024 (64 * ch c (16 - N))) (f := f)
      (by rw [outAcc_set (ho1 h0)])) $$ HF
    iintro HF
    iapply (wp_store 𝒱₀ (c : Thread nD τ) none Set.univ (m := outM) (r := outR off1 (h1 h)) (S := rows 1024 (64 * ch c (16 - N))) (f := f)
      (by rw [View.setOn_univ, outAcc_set (ho1 h0)])) $$ HF
    iintro HF
    ihave HF := (Entails.of_eq (merged_out B ht hN c h0 (h1 h) (h2 h) (ho1 h0) (ho2 h0) f (fun x => by
      rw [hpay h0, pad_read h3]))) $$ HF
    iapply hnext
    unfold St
    isplitr [HR]
    · isplitr; · iexact Hinv
      isplitl [HS]; · iexact HS
      isplitl [HVback HP Hat]
      · iapply HVback
        iapply (Entails.of_eq e16.symm)
        isplitl [HP]; · iexact HP
        iexact Hat
      isplitl [HFback HF]
      · iapply HFback
        iapply (Entails.of_eq (show _ = of N B t c 17 (16 - N) from by
          unfold of; rw [if_neg (by omega), if_pos (by omega), if_pos rfl]))
        iexact HF
      isplitl [HB]; · iexact HB
      iexact HO
    iexact HR
  · have h0 : N = 0 := Nat.eq_zero_of_not_pos fun hh => h (hb.mpr hh)
    have e : bigSep (Finset.range 16) (of N B t c 16) = bigSep (Finset.range 16) (of N B t c 17) :=
      bigSep_congr fun j hj => of_congr (fun _ => by have := Finset.mem_range.mp hj; omega) fun _ => by have := Finset.mem_range.mp hj; omega
    have e' : St N B t K c 17 16 16 0 = St N B t K c 17 17 16 0 := by unfold St; rw [e]
    rw [dif_neg h, e', St_skip_recv (fun hh => h (hb.mpr (act_pad.mp hh)))]
    exact hnext

end Cert.Exchange
-- ==== Proof.PartsA.lean ====
/- The kernel's body, part by part: the sending of the first thirteen chunks. -/
module
public import proofs.«01_k».proof.Proof.Pad

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {R : sProp (MM F)}

include ht hN

set_option cleanup.letToHave false

set_option maxHeartbeats 2000000 in
/-- The first six chunks go out. -/
theorem part3 {a1 a2 a3 a4} {v5 v8 v9 v22 w64 v23 v28 v30 : BitVec 32} {v18 v31 : BitVec 1} {v39 : BitVec 32}
    (h39 : v39 = Scalar.select (Scalar.andi (Scalar.cmpi .ne v28 (Scalar.subi v30 (Scalar.extui v31))) (Scalar.cmpi .ne (Scalar.remsi v22 w64) 0#32)) (Scalar.subi v23 1#32) v23)
    (hv : v39 = w32 N)
    {Q : (Σ' (_ : BitVec 32), BitVec 32) → sProp (MM F)} (hnext : iprop(St N B t K c 6 0 0 0 ∗ R) ⊢ Q ⟨v39, Scalar.subi v39 1#32⟩) :
    iprop(St N B t K c 0 0 0 0 ∗ R) ⊢ run c (k0_part3 (F := F) cntM a1 bigM a2 outM a3 padM a4
      cc0_scratch1 cc0_scratch2 cc0_scratch3 cc0_scratch4 c v5 v8 v9 v18 v22 w64 v23 v28 v30 v31) Q := by
  have hle : N ≤ 16 := hN c ▸ nn_le c (ht c)
  rw [k0_part3_eq_skeleton]
  unfold k0_part3_skel
  subst h39
  iterate 6 refine send_step ht hN (by decide) (by clear * -; revert c; decide) (by clear * -; revert c; decide) (by clear * -; revert c; decide) rfl rfl (guard_sent hv hle (by decide)) ?_
  exact run_pure hnext

set_option maxHeartbeats 2000000 in
/-- Seven further chunks. -/
theorem part4 {a1 a2 a3 a4} {v5 v8 v9 : BitVec 32} {v18 : BitVec 1} {v39 : BitVec 32} (hv : v39 = w32 N)
    {Q : (Σ' (_ : BitVec 32), BitVec 32) → sProp (MM F)} (hnext : iprop(St N B t K c 13 0 0 0 ∗ R) ⊢ Q ⟨Scalar.extui (Scalar.cmpi .sgt (Scalar.subi v39 1#32) 13#32), 0#32⟩) :
    iprop(St N B t K c 6 0 0 0 ∗ R) ⊢ run c (k0_part4 (F := F) cntM a1 bigM a2 outM a3 padM a4
      cc0_scratch1 cc0_scratch2 cc0_scratch3 cc0_scratch4 c v5 v8 v9 v18 v39 (Scalar.subi v39 1#32)) Q := by
  have hle : N ≤ 16 := hN c ▸ nn_le c (ht c)
  rw [k0_part4_eq_skeleton]
  unfold k0_part4_skel
  iterate 7 refine send_step ht hN (by decide) (by clear * -; revert c; decide) (by clear * -; revert c; decide) (by clear * -; revert c; decide) rfl rfl (guard_sent hv hle (by decide)) ?_
  exact run_pure hnext

end Cert.Exchange
-- ==== Proof.PartsB.lean ====
/- The kernel's body, part by part: the last chunks go out, and the device stores its own. -/
module
public import proofs.«01_k».proof.Proof.Pad

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {R : sProp (MM F)}

include ht hN

set_option cleanup.letToHave false

set_option maxHeartbeats 2000000 in
/-- The last chunks go out, the shared one among them, and the device stores its own first four. -/
theorem part5 {a1 a2 a3 a4} {v5 v8 v9 : BitVec 32} {v18 : BitVec 1} {hw : k0_chk1 c (w32 (t c))} {v39 : BitVec 32} (hv : v39 = w32 N)
    {Q : BitVec 1 → sProp (MM F)} (hnext : iprop(St N B t K c 17 4 0 0 ∗ R) ⊢ Q (Scalar.cmpi .sgt (Scalar.subi 16#32 v39) 4#32)) :
    iprop(St N B t K c 13 0 0 0 ∗ R) ⊢ run c (k0_part5 (F := F) cntM a1 bigM a2 outM a3 padM a4
      cc0_scratch1 cc0_scratch2 cc0_scratch3 cc0_scratch4 c v5 v8 v9 (w32 (t c)) hw v18 v39 (Scalar.extui (Scalar.cmpi .sgt (Scalar.subi v39 1#32) 13#32)) 0#32) Q := by
  have hle : N ≤ 16 := hN c ▸ nn_le c (ht c)
  rw [k0_part5_eq_skeleton]
  unfold k0_part5_skel
  iterate 3 refine send_step ht hN (by decide) (by clear * -; revert c; decide) (by clear * -; revert c; decide) (by clear * -; revert c; decide) rfl rfl (guard_sent hv hle (by decide)) ?_
  refine pad_send_step ht hN (fun h => hN c ▸ off33 c (ht c) (hN c ▸ h)) (by clear * -; revert c; decide) rfl rfl ((cond17 c (ht c)).trans (by rw [hN c])) ?_
  iterate 4 refine kept_step ht hN (by decide) (by clear * -; revert c; decide) (by clear * -; revert c; decide) (fun v => shapeCast_self v _) (guard_kept hv hle (by decide)) ?_
  exact run_pure hnext

set_option maxHeartbeats 2000000 in
/-- The device stores eight of its own chunks. -/
theorem part6 {a1 a2 a3 a4} {v18 : BitVec 1} {v39 : BitVec 32} (hv : v39 = w32 N)
    {Q : PUnit → sProp (MM F)} (hnext : iprop(St N B t K c 17 12 0 0 ∗ R) ⊢ Q ⟨⟩) :
    iprop(St N B t K c 17 4 0 0 ∗ R) ⊢ run c (k0_part6 (F := F) cntM a1 bigM a2 outM a3 padM a4
      cc0_scratch1 cc0_scratch2 cc0_scratch3 cc0_scratch4 c v18 v39 (Scalar.cmpi .sgt (Scalar.subi 16#32 v39) 4#32)) Q := by
  have hle : N ≤ 16 := hN c ▸ nn_le c (ht c)
  rw [k0_part6_eq_skeleton]
  unfold k0_part6_skel
  iterate 8 refine kept_step ht hN (by decide) (by clear * -; revert c; decide) (by clear * -; revert c; decide) (fun v => shapeCast_self v _) (guard_kept hv hle (by decide)) ?_
  exact run_pure hnext

end Cert.Exchange
-- ==== Proof.PartsC.lean ====
/- The kernel's body, part by part: the device's last own chunks and the first landings. -/
module
public import proofs.«01_k».proof.Proof.Pad

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {R : sProp (MM F)}

include ht hN

set_option cleanup.letToHave false

set_option maxHeartbeats 2000000 in
/-- The last four of the device's own chunks, and the first three landings. -/
theorem part7 {a1 a2 a3 a4} {v5 v8 v9 : BitVec 32} {v18 : BitVec 1} {v39 : BitVec 32} (hv : v39 = w32 N)
    {Q : BitVec 1 → sProp (MM F)} (hnext : iprop(St N B t K c 17 16 3 0 ∗ R) ⊢ Q (Scalar.cmpi .sgt (Scalar.subi v39 1#32) 3#32)) :
    iprop(St N B t K c 17 12 0 0 ∗ R) ⊢ run c (k0_part7 (F := F) cntM a1 bigM a2 outM a3 padM a4
      cc0_scratch1 cc0_scratch2 cc0_scratch3 cc0_scratch4 c v5 v8 v9 v18 v39) Q := by
  have hle : N ≤ 16 := hN c ▸ nn_le c (ht c)
  rw [k0_part7_eq_skeleton]
  unfold k0_part7_skel
  iterate 4 refine kept_step ht hN (by decide) (by clear * -; revert c; decide) (by clear * -; revert c; decide) (fun v => shapeCast_self v _) (guard_kept hv hle (by decide)) ?_
  iterate 3 refine recv_step (by decide) rfl rfl (guard_sent hv hle (by decide)) ?_
  exact run_pure hnext

set_option maxHeartbeats 2000000 in
/-- Eight further landings. -/
theorem part8 {a1 a2 a3 a4} {v5 v8 v9 : BitVec 32} {v18 : BitVec 1} {v39 : BitVec 32} (hv : v39 = w32 N)
    {Q : PUnit → sProp (MM F)} (hnext : iprop(St N B t K c 17 16 11 0 ∗ R) ⊢ Q ⟨⟩) :
    iprop(St N B t K c 17 16 3 0 ∗ R) ⊢ run c (k0_part8 (F := F) cntM a1 bigM a2 outM a3 padM a4
      cc0_scratch1 cc0_scratch2 cc0_scratch3 cc0_scratch4 c v5 v8 v9 v18 v39 (Scalar.cmpi .sgt (Scalar.subi v39 1#32) 3#32)) Q := by
  have hle : N ≤ 16 := hN c ▸ nn_le c (ht c)
  rw [k0_part8_eq_skeleton]
  unfold k0_part8_skel
  iterate 8 refine recv_step (by decide) rfl rfl (guard_sent hv hle (by decide)) ?_
  exact run_pure hnext

end Cert.Exchange
-- ==== Proof.PartsD.lean ====
/- The kernel's body, part by part: the last landings, the merged chunk and the departures. -/
module
public import proofs.«01_k».proof.Proof.Pad

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {R : sProp (MM F)}

include ht hN

set_option cleanup.letToHave false

set_option maxHeartbeats 2000000 in
/-- The last landings, the merged chunk, and the first departure. -/
theorem part9 {a1 a2 a3 a4} {v2 v5 v8 v9 : BitVec 32} {v18 : BitVec 1} (h2 : v2 = xW c) (h18 : v18 = xB c) {hw : k0_chk1 c (w32 (t c))} {v39 : BitVec 32} (hv : v39 = w32 N)
    {Q : (Σ' (_ : BitVec 32), BitVec 32) → sProp (MM F)} (hnext : iprop(St N B t K c 17 17 17 1 ∗ R) ⊢ Q ⟨Scalar.extui (Scalar.cmpi .sgt (Scalar.subi v39 1#32) 1#32), 0#32⟩) :
    iprop(St N B t K c 17 16 11 0 ∗ R) ⊢ run c (k0_part9 (F := F) cntM a1 bigM a2 outM a3 padM a4
      cc0_scratch1 cc0_scratch2 cc0_scratch3 cc0_scratch4 c v2 v5 v8 v9 (w32 (t c)) hw v18 v39) Q := by
  have hle : N ≤ 16 := hN c ▸ nn_le c (ht c)
  rw [k0_part9_eq_skeleton]
  unfold k0_part9_skel
  iterate 5 refine recv_step (by decide) rfl rfl (guard_sent hv hle (by decide)) ?_
  refine merged_step ht hN (fun h => hN c ▸ off100 c (ht c) (hN c ▸ h)) (fun h => hN c ▸ off99 c (ht c) (hN c ▸ h)) rfl
    (pay := k0_pay1 v2 (w32 (t c)) v18 v39) (fun h A P x => by rw [h2, h18, hv]; exact pay1_apply c (ht c) h hle A P x)
    (fun h => by rw [k0_part1_eq_skeleton]; rfl) ((cond50 c (ht c)).trans (by rw [hN c])) ?_
  iterate 1 refine conf_step (by decide) rfl rfl (guard_sent hv hle (by decide)) ?_
  exact run_pure hnext

set_option maxHeartbeats 2000000 in
/-- Eight further departures. -/
theorem part10 {a1 a2 a3 a4} {v18 : BitVec 1} {v39 : BitVec 32} (hv : v39 = w32 N)
    {Q : BitVec 32 → sProp (MM F)} (hnext : iprop(St N B t K c 17 17 17 9 ∗ R) ⊢ Q (Scalar.subi v39 1#32)) :
    iprop(St N B t K c 17 17 17 1 ∗ R) ⊢ run c (k0_part10 (F := F) cntM a1 bigM a2 outM a3 padM a4
      cc0_scratch1 cc0_scratch2 cc0_scratch3 cc0_scratch4 c v18 v39 (Scalar.extui (Scalar.cmpi .sgt (Scalar.subi v39 1#32) 1#32)) 0#32) Q := by
  have hle : N ≤ 16 := hN c ▸ nn_le c (ht c)
  rw [k0_part10_eq_skeleton]
  unfold k0_part10_skel
  iterate 8 refine conf_step (by decide) rfl rfl (guard_sent hv hle (by decide)) ?_
  exact run_pure hnext

set_option maxHeartbeats 2000000 in
/-- The last departures. -/
theorem part11 {a1 a2 a3 a4} {v18 : BitVec 1} {hw : k0_chk1 c (w32 (t c))} {v39 : BitVec 32} (hv : v39 = w32 N)
    {Q : PUnit → sProp (MM F)} (hnext : iprop(St N B t K c 17 17 17 17 ∗ R) ⊢ Q ⟨⟩) :
    iprop(St N B t K c 17 17 17 9 ∗ R) ⊢ run c (k0_part11 (F := F) cntM a1 bigM a2 outM a3 padM a4
      cc0_scratch1 cc0_scratch2 cc0_scratch3 cc0_scratch4 c (w32 (t c)) hw v18 v39 (Scalar.subi v39 1#32)) Q := by
  have hle : N ≤ 16 := hN c ▸ nn_le c (ht c)
  rw [k0_part11_eq_skeleton]
  unfold k0_part11_skel
  iterate 7 refine conf_step (by decide) rfl rfl (guard_sent hv hle (by decide)) ?_
  refine pad_conf_step rfl (fun _ => rfl) ((cond67 c (ht c)).trans (by rw [hN c])) ?_
  exact run_pure hnext

end Cert.Exchange
-- ==== Proof.Entry.lean ====
/- The start of the kernel's body: the barrier at which two partners exchange the right to write into each other's
   buffers, and the reading of the count of zeros. Then the whole body, part after part. -/
module
public import proofs.«01_k».proof.Proof.PartsA
public import proofs.«01_k».proof.Proof.PartsB
public import proofs.«01_k».proof.Proof.PartsC
public import proofs.«01_k».proof.Proof.PartsD

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The count of zeros, in the buffer the kernel reads it in. -/
def cntPts (t : Dev nD → ℕ) (c : Dev nD) : sProp (MM F) := cntM.view.loc (c : Thread nD τ) ↦{fullShare} (fun _ => w32 (t c))

section Entry

variable (N : ℕ) (B : Dev nD → S2048x512.Idx → Elt F .f32) (t : Dev nD → ℕ) (K : GSem nD τ sig → ℕ) (c : Dev nD)

/-- Chunk `k` on its sender before the barrier: what the partner hands over is not there yet. -/
def sfPre (k : ℕ) : sProp (MM F) :=
  iprop((if act N k then srcPts N B c k else emp) ∗ dutyTok ER (sendCell c k) 0 () ∗ dutyTok ER (recvCell (pr c) k) 0 ()
    ∗ atPos ER (sendCell c k) 0 ∅ 0)

theorem sf_start (k : ℕ) :
    iprop(sfPre N B c k ∗ ((if act N k then dstAny c k else emp) ∗ reached ER (recvCell (pr c) k) 0)) ⊢ sf N B c 0 0 k := by
  unfold sfPre sf
  by_cases h : act N k
  · rw [if_pos h, if_pos h, if_pos h, if_neg (Nat.not_lt_zero k), if_neg (Nat.not_lt_zero k)]
    iintro ⟨⟨Hs, Ht, Hu, Ha⟩, Hd, Hr⟩
    isplitl [Hs]; · iexact Hs
    isplitl [Hd]; · iexact Hd
    isplitl [Ht]; · iexact Ht
    isplitl [Hu]; · iexact Hu
    isplitl [Hr]; · iexact Hr
    iexact Ha
  · rw [if_neg h, if_neg h, if_neg h]
    iintro ⟨⟨-, -, -, Ha⟩, -, -⟩
    iexact Ha

/-- What the barrier needs for good. -/
def bars : sProp (MM F) :=
  iprop(cellInv ER (Rd N B t) (K (barCell c)) (barCell c) ∗ cellInv ER (Rd N B t) (K (barCell (pr c))) (barCell (pr c))
    ∗ reached ER (barCell (pr c)) 0 ∗ levAts L lv)

/-- Device `c` before the barrier. -/
def St0 : sProp (MM F) :=
  iprop(inv N B t K c ∗ bars N B t K c ∗ bigSep (Finset.range 17) (sfPre N B c) ∗ barPay N (pr c)
    ∗ bigSep (Finset.range 17) (rf N B t c 0) ∗ bigSep (Finset.range 16) (of N B t c 0)
    ∗ (bigL c ↦[keptS N c]{fullShare} B c) ∗ dutyTok ER (barCell (pr c)) 0 () ∗ cred (tallyAt (barCell c) () 1)
    ∗ atPos ER (barCell c) 0 ∅ 0 ∗ cntPts t c ∗ ∃ W, owes (c : Thread nD τ) (O₀ N c) W)

end Entry

variable {N : ℕ} {B : Dev nD → S2048x512.Idx → Elt F .f32} {t : Dev nD → ℕ} {K : GSem nD τ sig → ℕ} {c : Dev nD}
variable (ht : ∀ c, t c ≤ 1024) (hN : ∀ c, nn c (t c) = N)
variable {R : sProp (MM F)}

include ht hN

set_option cleanup.letToHave false

omit hN in
set_option maxHeartbeats 2000000 in
/-- The barrier and the count. -/
theorem part2 {a1 a2 a3 a4} {Q : _ → sProp (MM F)}
    (hnext : ∀ (v17 : Elt F .i32) (_ : v17 = w32 (t c)) hw, iprop(St N B t K c 0 0 0 0 ∗ atPos ER (barCell c) 1 ∅ 0 ∗ cntPts t c ∗ R)
      ⊢ Q ⟨c, xW c, Scalar.remsi (Scalar.divsi (Dev.word c) 2#32) 2#32, Scalar.remsi (Scalar.divsi (Dev.word c) 1#32) 2#32,
          Scalar.subi 1#32 (xW c), v17, hw, xB c, up (exW c v17), 64#32, Scalar.divsi (up (exW c v17)) 64#32,
          Scalar.subi (Scalar.extui (Scalar.cmpi .sgt (up (exW c v17)) 0#32)) (Scalar.extui (Scalar.cmpi .slt (up (exW c v17)) 0#32)),
          Scalar.extui (Scalar.cmpi .sgt 64#32 0#32), Scalar.cmpi .slt 64#32 0#32⟩) :
    iprop(St0 N B t K c ∗ R) ⊢ run c (k0_part2 (F := F) cntM a1 bigM a2 outM a3 padM a4
      cc0_scratch1 cc0_scratch2 cc0_scratch3 cc0_scratch4) Q := by
  rw [k0_part2_eq_skeleton]
  unfold k0_part2_skel run
  simp only [semSignalWord, semWaitWord, smemLoad, smemLoadElt, Prog.lift, Prog.bind_op, Prog.bind_ret, Prog.pure_eq_ret, wp_deviceId]
  unfold St0 bars
  iintro ⟨⟨#HI, ⟨#Hb, #HbP, #HrP, #Hlev⟩, Hs, Hpay, Hr, Ho, Hk, HtP, Hc, Hat, Hcnt, %W, HO⟩, HR⟩
  have hd : (⟨k0_dev1 c, k0_dev1_lt c⟩ : Dev nD) = pr c := by clear * -; revert c; decide
  rw [hd]
  iapply (Rounds.wp_signal 𝒱₀ ER (Rd N B t) (c : Thread nD τ) none (dst := (pr c : Thread nD τ)) (sem := barS) (r := 0) (d := ()) (κ := K (barCell (pr c)))
      (by rw [duties_of N B t (g := barCell (pr c)) rfl trivial]; exact Finset.mem_singleton_self _) rfl () (Ow N c 0) rfl) $$ [HO HtP Hpay]
  · isplitr; · iexact HbP
    isplitl [HO]; · iexact HO
    isplitl [HtP]; · iexact HtP
    isplitl [Hpay]; · iapply (show barPay N (pr c) ⊢ (Rd N B t).payload (barCell (pr c)) 0 () from .rfl); iexact Hpay
    iexact HrP
  iintro HO
  iapply (Rounds.wp_wait_rest_token 𝒱₀ ER (Rd N B t) (c : Thread nD τ) none (κ := K (barCell c))
      (wpE_semWait_eq 𝒱₀ (c : Thread nD τ) none Set.univ) (Set.mem_univ _) () (O := Ow N c 0) (W := W) (R := 0) (m := 0) (T := ∅)
      ((Nat.zero_add 1).trans (expect_of N B t (g := barCell c) rfl trivial).symm)) $$ [Hc HO Hat]
  · isplitr; · iexact Hb
    isplitl [Hc]; · iexact Hc
    isplitl [HO]; · iexact HO
    isplitr; · iapply (mayWait_bar N c); iexact Hlev
    iexact Hat
  iintro ⟨HO, Hat, -, Hpay⟩
  ihave Hp := (Entails.of_eq ((rest_of N B t (g := barCell c) rfl trivial).trans (show _ = barPay N c from rfl))) $$ Hpay
  unfold cntPts
  iapply (wp_load_rect 𝒱₀ (c : Thread nD τ) none Set.univ (m := cntM) (r := Rect.unit (s := S1) ![0] S1.size inb_S1_S1_0) (S := Finset.univ)
      (q := fullShare) (f := fun _ => w32 (t c)) (Finset.subset_univ _)) $$ Hcnt
  iintro Hcnt
  have hread (x) : (cntM.access (Rect.unit (s := S1) ![0] S1.size inb_S1_S1_0)).read (Elt F) (fun _ => w32 (t c)) x = w32 (t c) := rfl
  iapply (wp_assume 𝒱₀ (c : Thread nD τ) none Set.univ (chk1 c (ht c)))
  rw [wp_ret]
  imodintro
  iapply (hnext _ (hread _) (chk1 c (ht c)))
  unfold St
  isplitl [Hs Hp Hr Ho Hk HO]
  · isplitr; · iexact HI
    isplitl [Hs Hp]
    · iapply (show iprop(bigSep (Finset.range 17) (sfPre N B c) ∗ barPay N c) ⊢ bigSep (Finset.range 17) (sf N B c 0 0) from by
        unfold barPay
        rw [← bigSep_sep']
        exact bigSep_mono fun k _ => sf_start N B c k)
      isplitl [Hs]; · iexact Hs
      iexact Hp
    isplitl [Hr]; · iexact Hr
    isplitl [Ho]; · iexact Ho
    isplitl [Hk]; · iexact Hk
    iexists _; iexact HO
  isplitl [Hat]; · iexact Hat
  unfold cntPts
  isplitl [Hcnt]; · iexact Hcnt
  iexact HR

omit ht hN in
theorem run_bind {α β : Type} {P : sProp (MM F)} {p : Prog (TpuEff nD τ sig (Elt F) Λ₀ .tc) α} {f : α → Prog (TpuEff nD τ sig (Elt F) Λ₀ .tc) β}
    {Q : β → sProp (MM F)} (h : P ⊢ run c p (fun a => run c (f a) Q)) : P ⊢ run c (p >>= f) Q := by
  unfold run at *
  rw [wp_bind]
  exact h

set_option maxHeartbeats 4000000 in
/-- The whole body. -/
theorem body_run {a1 a2 a3 a4} {Q : PUnit → sProp (MM F)}
    (hnext : iprop(St N B t K c 17 17 17 17 ∗ atPos ER (barCell c) 1 ∅ 0 ∗ cntPts t c ∗ R) ⊢ Q ⟨⟩) :
    iprop(St0 N B t K c ∗ R) ⊢ run c (cc0_body (F := F) cntM a1 bigM a2 outM a3 padM a4
      cc0_scratch1 cc0_scratch2 cc0_scratch3 cc0_scratch4) Q := by
  rw [cc0_body_eq_skeleton]
  unfold cc0_body_skel
  refine run_bind (part2 ht fun v17 h17 hw => ?_)
  dsimp only
  subst h17
  obtain ⟨v39, h39⟩ : ∃ v, v = nW (exW c (w32 (t c))) := ⟨_, rfl⟩
  have hv : v39 = w32 N := h39.trans ((nW_exW c (ht c)).trans (by rw [hN c]))
  refine run_bind (part3 ht hN h39 hv ?_)
  dsimp only
  refine run_bind (part4 ht hN hv ?_)
  dsimp only
  refine run_bind (part5 ht hN hv ?_)
  refine run_bind (part6 ht hN hv ?_)
  refine run_bind (part7 ht hN hv ?_)
  refine run_bind (part8 ht hN hv ?_)
  refine run_bind (part9 ht hN rfl rfl hv ?_)
  dsimp only
  refine run_bind (part10 ht hN hv ?_)
  refine run_bind (part11 ht hN hv ?_)
  exact run_pure hnext

end Cert.Exchange
-- ==== Proof.Bufs.lean ====
/- The kernel's buffers and semaphores at the two ends of its body: cut into the pieces the protocol deals in, and put
   together again. -/
module
public import proofs.«01_k».proof.Proof.Entry

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem bigSep_le {I : Type} {s : Finset I} {Φ Ψ : I → sProp (MM F)} (h : ∀ i ∈ s, Φ i ⊢ Ψ i) : bigSep s Φ ⊢ bigSep s Ψ := bigSep_mono h

/-- Sixteen items counted backwards. -/
theorem bigSep_reflect (Φ : ℕ → sProp (MM F)) : bigSep (Finset.range 16) Φ = bigSep (Finset.range 16) fun k => Φ (15 - k) := by
  have hi : Function.Injective fun k : ℕ => if k < 16 then 15 - k else k := by
    intro a b h
    dsimp only at h
    split at h <;> split at h <;> omega
  have e : Finset.range 16 = (Finset.range 16).map ⟨_, hi⟩ := by
    rw [Finset.map_eq_image]; show _ = Finset.image (fun k : ℕ => if k < 16 then 15 - k else k) _; decide
  have e' := bigSep_map (s := Finset.range 16) (⟨_, hi⟩ : ℕ ↪ ℕ) (Φ := Φ)
  rw [← e] at e'
  rw [e']
  exact bigSep_congr fun k hk => by
    show Φ (if k < 16 then 15 - k else k) = _
    rw [if_pos (Finset.mem_range.mp hk)]

theorem bigSep_last (Φ : ℕ → sProp (MM F)) : bigSep (Finset.range 17) Φ = iprop(Φ 16 ∗ bigSep (Finset.range 16) Φ) := by
  rw [show Finset.range 17 = insert 16 (Finset.range 16) from Finset.range_add_one, bigSep_insert (by simp)]
  rfl

section Cut

variable (N : ℕ) (B : Dev nD → S2048x512.Idx → Elt F .f32) (t : Dev nD → ℕ) (c : Dev nD)

theorem out_cover : (Finset.range 16).biUnion (fun i => rows 1024 (64 * ch c i)) = Finset.univ := by
  refine Finset.eq_univ_of_forall fun i => Finset.mem_biUnion.mpr ?_
  have h : (i 0).val < 1024 := (i 0).isLt
  have h16 : (i 0).val / 64 < 16 := by omega
  exact ⟨ch c ((i 0).val / 64), Finset.mem_range.mpr (ch_lt c h16), mem_rows.mpr (by rw [ch_ch c h16]; omega)⟩

theorem ch_inj {j k : ℕ} (hj : j < 16) (hk : k < 16) (h : j ≠ k) : ch c j ≠ ch c k :=
  fun e => h (by rw [← ch_ch c hj, e, ch_ch c hk])

theorem out_pieces (f : Buf (Elt F) (outL c)) :
    (outL c ↦{fullShare} f : sProp (MM F)) = bigSep (Finset.range 16) fun i => outL c ↦[rows 1024 (64 * ch c i)]{fullShare} f := by
  have e := pointsTo_biUnion (ℓ := outL c) (q := fullShare) (f := f) (Ix := Unit) (Name := ℕ) (U := UU) (Lvl := ℕ) (Finset.range 16)
    (fun i => rows 1024 (64 * ch c i)) fun i hi j hj h =>
      rows_disjoint (by have := ch_inj c (Finset.mem_range.mp hi) (Finset.mem_range.mp hj) h; omega)
  rw [out_cover] at e
  exact e

theorem out_split (f : Buf (Elt F) (outL c)) : (outL c ↦{fullShare} f : sProp (MM F))
    ⊢ iprop(bigSep (Finset.range 16) (of N B t c 0) ∗ bigSep (Finset.range 16) fun k => if act N k then dstAny (pr c) k else iprop(emp)) := by
  have hr : bigSep (Finset.range 16) (fun k => if act N k then dstAny (F := F) (pr c) k else iprop(emp))
      = bigSep (Finset.range 16) fun i => if 16 < i + N then outAny c i else iprop(emp) := by
    rw [bigSep_reflect fun i => if 16 < i + N then outAny c i else iprop(emp)]
    refine bigSep_congr fun k hk => ?_
    have h := Finset.mem_range.mp hk
    have e : dstAny (F := F) (pr c) k = outAny c (15 - k) := by
      unfold dstAny outAny
      rw [if_pos h, ch_pr c h, pr_pr]
    rw [e]
    exact if_congr ((act_lt h).trans ⟨fun _ => by omega, fun _ => by omega⟩) rfl rfl
  rw [hr, out_pieces, ← bigSep_sep']
  refine bigSep_le fun i _ => ?_
  unfold of
  by_cases h1 : i + N < 16
  · rw [if_pos h1, if_neg (Nat.not_lt_zero i), if_neg (by omega)]
    iintro H
    isplitl [H]; · iexists f; iexact H
    iempintro
  · rw [if_neg h1]
    by_cases h2 : i + N = 16
    · rw [if_pos h2, if_neg (by decide), if_neg (by omega)]
      iintro H
      isplitl [H]; · iexists f; iexact H
      iempintro
    · rw [if_neg h2, if_pos (by omega)]
      iintro H
      isplitr; · iempintro
      iexists f; iexact H

theorem out_join : iprop(bigSep (Finset.range 16) (of N B t c 17) ∗ bigSep (Finset.range 16) fun k => if act N k then landed N B t c k else iprop(emp))
    ⊢ (outL c ↦{fullShare} OUT B t c : sProp (MM F)) := by
  have hr : bigSep (Finset.range 16) (fun k => if act N k then landed N B t c k else iprop(emp))
      = bigSep (Finset.range 16) fun i => if 16 < i + N then outDone B t c i else iprop(emp) := by
    rw [bigSep_reflect fun i => if 16 < i + N then outDone B t c i else iprop(emp)]
    refine bigSep_congr fun k hk => ?_
    have h := Finset.mem_range.mp hk
    have e : landed N B t c k = outDone B t c (15 - k) := by
      unfold landed outDone
      rw [if_pos h, ch_pr c h]
    rw [e]
    exact if_congr ((act_lt h).trans ⟨fun _ => by omega, fun _ => by omega⟩) rfl rfl
  rw [hr, out_pieces, ← bigSep_sep']
  refine bigSep_le fun i hi => ?_
  unfold of
  by_cases h1 : i + N < 16
  · rw [if_pos h1, if_pos (by have := Finset.mem_range.mp hi; omega)]
    iintro ⟨H, -⟩
    iexact H
  · rw [if_neg h1]
    by_cases h2 : i + N = 16
    · rw [if_pos h2, if_pos rfl]
      iintro ⟨H, -⟩
      iexact H
    · rw [if_neg h2, if_pos (by omega)]
      iintro ⟨-, H⟩
      iexact H

theorem tk_inj {j k : ℕ} (hj : j < 17) (hk : k < 17) (aj : act N j) (ak : act N k) (h : j ≠ k) : tk N j ≠ tk N k := by
  unfold act at aj ak
  unfold tk
  split at aj <;> split at ak <;> simp only [*, if_true, if_false] <;> omega
theorem tk_lt {k : ℕ} (hN : N ≤ 16) (ha : act N k) : tk N k < 16 := by
  unfold act at ha
  unfold tk
  split at ha <;> simp only [*, if_true, if_false] <;> omega

theorem big_cut (hN : N ≤ 16) : (bigL c ↦{fullShare} B c : sProp (MM F))
    ⊣⊢ iprop((bigSep (Finset.range 17) fun k => if act N k then srcPts N B c k else iprop(emp)) ∗ (bigL c ↦[keptS N c]{fullShare} B c)) := by
  have e := pointsTo_biUnion (ℓ := bigL c) (q := fullShare) (f := B c) (Ix := Unit) (Name := ℕ) (U := UU) (Lvl := ℕ)
    ((Finset.range 17).filter fun k => act N k) (fun k => rows 2048 (srcRow N c k)) fun i hi j hj h => by
      obtain ⟨hi, ai⟩ := Finset.mem_filter.mp hi
      obtain ⟨hj, aj⟩ := Finset.mem_filter.mp hj
      have h1 := ch_inj c (tk_lt N hN ai) (tk_lt N hN aj) (tk_inj N (Finset.mem_range.mp hi) (Finset.mem_range.mp hj) ai aj h)
      exact rows_disjoint (by unfold srcRow; omega)
  rw [bigSep_filter] at e
  have s := pointsTo_split_subset (ℓ := bigL c) (q := fullShare) (f := B c) (Val := Elt F) (Ix := Unit) (Name := ℕ) (U := UU) (Lvl := ℕ)
    (Finset.subset_univ (((Finset.range 17).filter fun k => act N k).biUnion fun k => rows 2048 (srcRow N c k)))
  rw [e] at s
  exact s

/-- The scratch block, at contents not chosen. -/
def padAny : sProp (MM F) := iprop(∃ f : Buf (Elt F) (padL c), padL c ↦{fullShare} f)
/-- It is the device's own if no chunk lands in it. -/
def spare : sProp (MM F) := if act N 16 then iprop(emp) else padAny c

theorem pad_split : padAny c ⊢ (iprop((if act N 16 then dstAny (pr c) 16 else iprop(emp)) ∗ spare N c) : sProp (MM F)) := by
  have e : dstAny (F := F) (pr c) 16 = padAny c := by
    unfold dstAny padAny
    rw [if_neg (by decide), pr_pr]
  unfold spare
  rw [e]
  by_cases h : act N 16
  · rw [if_pos h, if_pos h]
    iintro H
    isplitl [H]; · iexact H
    iempintro
  · rw [if_neg h, if_neg h]
    iintro H
    isplitr; · iempintro
    iexact H
theorem pad_join : iprop((if act N 16 then landed N B t c 16 else iprop(emp)) ∗ spare N c) ⊢ padAny c := by
  unfold spare
  by_cases h : act N 16
  · rw [if_pos h, if_pos h]
    unfold landed padAny
    rw [if_neg (by decide)]
    iintro ⟨H, -⟩
    iexists _; iexact H
  · rw [if_neg h, if_neg h]
    iintro ⟨-, H⟩
    iexact H

end Cut

instance bars_persistent (N : ℕ) (B : Dev nD → S2048x512.Idx → Elt F .f32) (t : Dev nD → ℕ) (K : GSem nD τ sig → ℕ) (c : Dev nD) :
    BI.Persistent (bars N B t K c) := by unfold bars; infer_instance

section Ends

variable (N : ℕ) (B : Dev nD → S2048x512.Idx → Elt F .f32) (t : Dev nD → ℕ) (K : GSem nD τ sig → ℕ) (c : Dev nD)

/-- What device `c` holds of the protocol when the body starts, its cells open. -/
def Opened : sProp (MM F) :=
  iprop(inv N B t K c ∗ bars N B t K c
    ∗ (bigSep (Finset.range 17) fun k => iprop(dutyTok ER (sendCell c k) 0 () ∗ dutyTok ER (recvCell (pr c) k) 0 () ∗ atPos ER (sendCell c k) 0 ∅ 0))
    ∗ (bigSep (Finset.range 17) fun k => iprop((if act N k then cred (tallyAt (recvCell c k) () amt) else iprop(emp)) ∗ atPos ER (recvCell c k) 0 ∅ 0))
    ∗ (bigSep (Finset.range 17) fun k => reached ER (recvCell c k) 0)
    ∗ dutyTok ER (barCell (pr c)) 0 () ∗ cred (tallyAt (barCell c) () 1) ∗ atPos ER (barCell c) 0 ∅ 0)

theorem start (hN : N ≤ 16) (f : Buf (Elt F) (outL c)) (W : Waits sig Unit) :
    iprop(Opened N B t K c ∗ (bigL c ↦{fullShare} B c) ∗ (outL c ↦{fullShare} f) ∗ padAny c ∗ cntPts t c ∗ owes (c : Thread nD τ) (O₀ N c) W)
      ⊢ iprop(St0 N B t K c ∗ spare N c) := by
  unfold Opened St0
  iintro ⟨⟨#HI, #Hb, Hs, Hr, #Hre, HtB, Hc, Hat⟩, HB, Ho, Hp, Hcnt, HO⟩
  ihave HB := (big_cut N B c hN).1 $$ HB
  icases HB with ⟨HB, Hk⟩
  ihave Ho := (out_split N B t c f) $$ Ho
  icases Ho with ⟨Ho, Hout⟩
  ihave Hp := (pad_split N c) $$ Hp
  icases Hp with ⟨Hpad, Hsp⟩
  isplitr [Hsp]
  · isplitr; · iexact HI
    isplitr; · iexact Hb
    isplitl [Hs HB]
    · iapply (show iprop((bigSep (Finset.range 17) fun k => if act N k then srcPts N B c k else iprop(emp))
            ∗ (bigSep (Finset.range 17) fun k => iprop(dutyTok ER (sendCell c k) 0 () ∗ dutyTok ER (recvCell (pr c) k) 0 () ∗ atPos ER (sendCell c k) 0 ∅ 0)))
          ⊢ bigSep (Finset.range 17) (sfPre N B c) from by
        rw [← bigSep_sep']; exact .rfl)
      isplitl [HB]; · iexact HB
      iexact Hs
    isplitl [Hout Hpad]
    · iapply (show iprop((bigSep (Finset.range 17) fun k => if act N k then dstAny (pr c) k else iprop(emp))
            ∗ (bigSep (Finset.range 17) fun k => reached ER (recvCell c k) 0)) ⊢ (barPay N (pr c) : sProp (MM F)) from by
        unfold barPay
        rw [← bigSep_sep', pr_pr])
      isplitl [Hout Hpad]
      · iapply (Entails.of_eq (bigSep_last fun k => if act N k then dstAny (pr c) k else iprop(emp)).symm)
        isplitl [Hpad]; · iexact Hpad
        iexact Hout
      iexact Hre
    isplitl [Hr]
    · iapply (bigSep_le (fun k _ => show iprop((if act N k then cred (tallyAt (recvCell c k) () amt) else iprop(emp)) ∗ atPos ER (recvCell c k) 0 ∅ 0) ⊢ rf N B t c 0 k from by
        unfold rf
        by_cases h : act N k
        · rw [if_pos h, if_pos h, if_neg (Nat.not_lt_zero k)]
        · rw [if_neg h, if_neg h]
          iintro ⟨-, H⟩
          iexact H) : bigSep (Finset.range 17) _ ⊢ bigSep (Finset.range 17) (rf N B t c 0))
      iexact Hr
    isplitl [Ho]; · iexact Ho
    isplitl [Hk]; · iexact Hk
    isplitl [HtB]; · iexact HtB
    isplitl [Hc]; · iexact Hc
    isplitl [Hat]; · iexact Hat
    isplitl [Hcnt]; · iexact Hcnt
    iexists W; iexact HO
  iexact Hsp

variable {N B t} in
theorem close_done (κ : ℕ) (g : GSem nD τ sig) :
    iprop(cellInv ER (Rd N B t) κ g ∗ atPos ER g 1 ∅ 0) ⊢ (|={Set.univ}=> semVal g 0 : sProp (MM F)) :=
  Rounds.cell_close ER (Rd N B t) (Set.mem_univ κ) id (duties_later N B t g)
variable {N B t} in
theorem close_idle (κ : ℕ) {g : GSem nD τ sig} (h : ¬ semDuty N g.2) :
    iprop(cellInv ER (Rd N B t) κ g ∗ atPos ER g 0 ∅ 0) ⊢ (|={Set.univ}=> semVal g 0 : sProp (MM F)) :=
  Rounds.cell_close ER (Rd N B t) (Set.mem_univ κ) id (fun r _ => duties_none N B t h r)

theorem send_close {k : ℕ} (hk : k < 17) :
    iprop(cellInv ER (Rd N B t) (K (sendCell c k)) (sendCell c k) ∗ sf N B c 17 17 k)
      ⊢ (|={Set.univ}=> iprop((if act N k then srcPts N B c k else iprop(emp)) ∗ semVal (sendCell c k) 0) : sProp (MM F)) := by
  unfold sf
  by_cases h : act N k
  · rw [if_pos h, if_pos h, if_pos hk]
    iintro ⟨#HI, HS, Hat⟩
    imod (close_done (K (sendCell c k)) (sendCell c k)) $$ [Hat] with Hv
    · isplitr; · iexact HI
      iexact Hat
    imodintro
    isplitl [HS]; · iexact HS
    iexact Hv
  · rw [if_neg h, if_neg h]
    iintro ⟨#HI, Hat⟩
    imod (close_idle (K (sendCell c k)) (g := sendCell c k) (fun hh => h ((semDuty_send N hk).mp hh))) $$ [Hat] with Hv
    · isplitr; · iexact HI
      iexact Hat
    imodintro
    isplitr; · iempintro
    iexact Hv

theorem recv_close {k : ℕ} (hk : k < 17) :
    iprop(cellInv ER (Rd N B t) (K (recvCell c k)) (recvCell c k) ∗ rf N B t c 17 k)
      ⊢ (|={Set.univ}=> iprop((if act N k then landed N B t c k else iprop(emp)) ∗ semVal (recvCell c k) 0) : sProp (MM F)) := by
  unfold rf
  by_cases h : act N k
  · rw [if_pos h, if_pos h, if_pos hk]
    iintro ⟨#HI, HS, Hat⟩
    imod (close_done (K (recvCell c k)) (recvCell c k)) $$ [Hat] with Hv
    · isplitr; · iexact HI
      iexact Hat
    imodintro
    isplitl [HS]; · iexact HS
    iexact Hv
  · rw [if_neg h, if_neg h]
    iintro ⟨#HI, Hat⟩
    imod (close_idle (K (recvCell c k)) (g := recvCell c k) (fun hh => h ((semDuty_recv N hk).mp hh))) $$ [Hat] with Hv
    · isplitr; · iexact HI
      iexact Hat
    imodintro
    isplitr; · iempintro
    iexact Hv

/-- The buffers whole again, and every counter back at zero. -/
def Closed : sProp (MM F) :=
  iprop((bigL c ↦{fullShare} B c) ∗ (outL c ↦{fullShare} OUT B t c) ∗ padAny c ∗ cntPts t c ∗ semVal (barCell c) 0
    ∗ (bigSep (Finset.range 17) fun k => semVal (sendCell c k) 0) ∗ (bigSep (Finset.range 17) fun k => semVal (recvCell c k) 0)
    ∗ ∃ W, owes (c : Thread nD τ) (0 : CellTallies nD τ sig Unit) W)

theorem finish (hN : N ≤ 16) :
    iprop(St N B t K c 17 17 17 17 ∗ atPos ER (barCell c) 1 ∅ 0 ∗ cntPts t c ∗ spare N c ∗ bars N B t K c)
      ⊢ (|={Set.univ}=> Closed B t c : sProp (MM F)) := by
  have hs : iprop(inv N B t K c ∗ bigSep (Finset.range 17) (sf N B c 17 17))
      ⊢ (|={Set.univ}=> iprop((bigSep (Finset.range 17) fun k => if act N k then srcPts N B c k else iprop(emp))
          ∗ bigSep (Finset.range 17) fun k => semVal (sendCell c k) 0) : sProp (MM F)) := by
    rw [← bigSep_sep']
    refine .trans ?_ (bigSep_fupd _ _)
    unfold inv
    rw [← bigSep_sep']
    refine bigSep_le fun k hk => ?_
    iintro ⟨⟨HI, -, -, -⟩, H⟩
    iapply (send_close N B t K c (Finset.mem_range.mp hk))
    isplitl [HI]; · iexact HI
    iexact H
  have hr : iprop(inv N B t K c ∗ bigSep (Finset.range 17) (rf N B t c 17))
      ⊢ (|={Set.univ}=> iprop((bigSep (Finset.range 17) fun k => if act N k then landed N B t c k else iprop(emp))
          ∗ bigSep (Finset.range 17) fun k => semVal (recvCell c k) 0) : sProp (MM F)) := by
    rw [← bigSep_sep']
    refine .trans ?_ (bigSep_fupd _ _)
    unfold inv
    rw [← bigSep_sep']
    refine bigSep_le fun k hk => ?_
    iintro ⟨⟨-, HI, -, -⟩, H⟩
    iapply (recv_close N B t K c (Finset.mem_range.mp hk))
    isplitl [HI]; · iexact HI
    iexact H
  unfold St bars
  iintro ⟨⟨#HI, Hs, Hr, Ho, Hk, %W, HO⟩, Hat, Hcnt, Hsp, #Hb, -, -, -⟩
  imod hs $$ [Hs] with ⟨Hs, Hsv⟩
  · isplitr; · iexact HI
    iexact Hs
  imod hr $$ [Hr] with ⟨Hr, Hrv⟩
  · isplitr; · iexact HI
    iexact Hr
  imod (close_done (K (barCell c)) (barCell c)) $$ [Hat] with Hbv
  · isplitr; · iexact Hb
    iexact Hat
  imodintro
  unfold Closed
  ihave Hr := (Entails.of_eq (bigSep_last fun k => if act N k then landed N B t c k else iprop(emp))) $$ Hr
  icases Hr with ⟨Hp, Hr⟩
  isplitl [Hs Hk]
  · iapply (big_cut N B c hN).2
    isplitl [Hs]; · iexact Hs
    iexact Hk
  isplitl [Ho Hr]
  · iapply (out_join N B t c)
    isplitl [Ho]; · iexact Ho
    iexact Hr
  isplitl [Hp Hsp]
  · iapply (pad_join N B t c)
    isplitl [Hp]; · iexact Hp
    iexact Hsp
  isplitl [Hcnt]; · iexact Hcnt
  isplitl [Hbv]; · iexact Hbv
  isplitl [Hsv]; · iexact Hsv
  isplitl [Hrv]; · iexact Hrv
  iexists W
  rw [← Ow_done N c]
  iexact HO

/-- The body, from its buffers whole to its buffers whole. -/
theorem body_whole (ht : ∀ c, t c ≤ 1024) (hN : ∀ c, nn c (t c) = N) {a1 a2 a3 a4} (f : Buf (Elt F) (outL c)) (W : Waits sig Unit)
    {Q : PUnit → sProp (MM F)} :
    iprop((Opened N B t K c ∗ (bigL c ↦{fullShare} B c) ∗ (outL c ↦{fullShare} f) ∗ padAny c ∗ cntPts t c ∗ owes (c : Thread nD τ) (O₀ N c) W)
        ∗ (Closed B t c -∗ Q ⟨⟩))
      ⊢ run c (cc0_body (F := F) cntM a1 bigM a2 outM a3 padM a4 cc0_scratch1 cc0_scratch2 cc0_scratch3 cc0_scratch4) Q := by
  have hle : N ≤ 16 := hN c ▸ nn_le c (ht c)
  have hb : Opened N B t K c ⊢ iprop(Opened N B t K c ∗ bars N B t K c) := by
    unfold Opened bars
    iintro ⟨HI, #Hb, Hr⟩
    isplitr []
    · isplitl [HI]; · iexact HI
      isplitr; · iexact Hb
      iexact Hr
    iexact Hb
  refine .trans (?_ : _ ⊢ iprop(St0 N B t K c ∗ (spare N c ∗ bars N B t K c ∗ (Closed B t c -∗ Q ⟨⟩)))) ?_
  · iintro ⟨⟨Hop, Hr⟩, Hk⟩
    ihave Hop := hb $$ Hop
    icases Hop with ⟨Hop, Hb⟩
    ihave H := (start N B t K c hle f W) $$ [Hop Hr]
    · isplitl [Hop]; · iexact Hop
      iexact Hr
    icases H with ⟨H, Hsp⟩
    isplitl [H]; · iexact H
    isplitl [Hsp]; · iexact Hsp
    isplitl [Hb]; · iexact Hb
    iexact Hk
  · unfold run
    refine .trans ?_ (wp_fupd _ _ _ _ _)
    refine body_run (Q := fun a => iprop(|={Set.univ}=> Q a)) ht hN ?_
    iintro ⟨H, Hat, Hcnt, Hsp, Hb, Hk⟩
    imod (finish N B t K c hle) $$ [H Hat Hcnt Hsp Hb] with Hc
    · isplitl [H]; · iexact H
      isplitl [Hat]; · iexact Hat
      isplitl [Hcnt]; · iexact Hcnt
      isplitl [Hsp]; · iexact Hsp
      iexact Hb
    imodintro
    iapply Hk; iexact Hc

end Ends

end Cert.Exchange
-- ==== Proof.Region.lean ====
/- The kernel's call: what its one grid point finds in the buffers and leaves in them, with the exchange inside it. -/
module
public import proofs.«01_k».proof.Proof.Bufs
public import proofs.«01_k».proof.Proof.Gen.KernelIdeal.Points
public import Idealize.ShloMosaic.Lib.Ring
public import proofs.«01_k».proof.Proof.Gen.KernelIdeal.Launch
public import proofs.«01_k».proof.Proof.Gen.KernelIdeal.Regions

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The windows are whole arrays -/

theorem read0 (u : Fin cfg0.N) (f : S1.Idx → Elt F .i32) : ((cfg0.win 0).blk u).view.read (Elt F) f = f := by
  funext x
  show f (((cfg0.win 0).blk u).view.emb x) = f x
  congr 1
  funext a
  match a with
  | 0 => exact Fin.ext (by show 0 * 1 + 1 * (x 0).val = (x 0).val; omega)

theorem emb1 (u : Fin cfg0.N) (x : S2048x512.Idx) : ((cfg0.win 1).blk u).view.emb x = x := by
  funext a
  match a with
  | 0 => exact Fin.ext (by show 0 * 2048 + 1 * (x 0).val = (x 0).val; omega)
  | 1 => exact Fin.ext (by show 0 * 512 + 1 * (x 1).val = (x 1).val; omega)
theorem read1 (u : Fin cfg0.N) (f : S2048x512.Idx → Elt F .f32) : ((cfg0.win 1).blk u).view.read (Elt F) f = f :=
  funext fun x => congrArg f (emb1 u x)

theorem emb2 (u : Fin cfg0.N) (x : S1024x512.Idx) : ((cfg0.win 2).blk u).view.emb x = x := by
  funext a
  match a with
  | 0 => exact Fin.ext (by show 0 * 1024 + 1 * (x 0).val = (x 0).val; omega)
  | 1 => exact Fin.ext (by show 0 * 512 + 1 * (x 1).val = (x 1).val; omega)
theorem write2 (u : Fin cfg0.N) (f g : S1024x512.Idx → Elt F .f32) :
    ((cfg0.win 2).blk u).view.write (Elt F) f g Finset.univ = g := by
  funext i
  conv_lhs => rw [← emb2 u i]
  exact View.write_emb_of_mem _ _ (Finset.mem_univ _)

section Call

variable (N : ℕ) (t : Dev nD → ℕ) (V : Dev nD → Valuation τ sig (Elt F))

/-- The sorted rows a device's call finds. -/
def sorted (c : Dev nD) : S2048x512.Idx → Elt F .f32 := V c (Proc.devRef .tc main_v52)

/-- The semaphores the kernel declares: for each of the 17 chunks, the sender's and the receiver's. -/
def osem : Fin 2 × Fin 17 → SemLoc sig := fun j => if j.1 = 0 then .dma (sendS j.2.val) else .dma (recvS j.2.val)

def Xk (c : Dev nD) : sProp (MM F) := iprop(∃ K, Opened N (sorted V) t K c)
def Yk (c : Dev nD) : sProp (MM F) := semVal (barCell c) 0
def sems0 (c : Dev nD) : sProp (MM F) :=
  iprop((bigSep (Finset.range 17) fun k => semVal (sendCell c k) 0) ∗ (bigSep (Finset.range 17) fun k => semVal (recvCell c k) 0))

/-- The call: it finds the count and the sorted rows, and leaves the result. -/
def dat (c : Dev nD) : Pipeline.Dat τ (Elt F) Unit ℕ UU ℕ cfg0 c where
  A w := match w with
    | 0 => V c (Proc.devRef .tc main_v53)
    | 1 => V c (Proc.devRef .tc main_v52)
    | 2 => V c (Proc.devRef .tc main_v54)
  after w _ := match w with
    | 0 => fun _ => w32 (t c)
    | 1 => sorted V c
    | 2 => OUT (sorted V) t c
  Φ s := if s.val = 0 then iprop(Xk N t V c ∗ padAny c ∗ ∃ r, prngReg c r)
    else iprop((Yk c ∗ sems0 c) ∗ padAny c ∗ ∃ r, prngReg c r)
  q _ := fullShare
  owed s := if s.val = 0 then O₀ N c else 0

abbrev pdats : (p : Fin 1) → (c : Dev nD) → Pipeline.Dat τ (Elt F) Unit ℕ UU ℕ (cfgs p) c
  | 0 => dat N t V

theorem owed_first (c : Dev nD) (s : Fin (cfg0.N + 1)) (h : s.val = 0) : (dat N t V c).owed s = O₀ N c := if_pos h
theorem owed_last (c : Dev nD) (s : Fin (cfg0.N + 1)) (h : s.val ≠ 0) : (dat N t V c).owed s = 0 := if_neg h

theorem owesAt_in (c : Dev nD) (s : Fin (cfg0.N + 1)) {O : CellTallies nD τ sig Unit} (h : (dat N t V c).owed s = O) (W : Waits sig Unit) :
    (owes (c : Thread nD τ) O W : sProp (MM F)) ⊢ (dat N t V c).owesAt () s := by
  unfold Pipeline.Dat.owesAt Pipeline.owesWithin Pipeline.Dat.bound
  rw [h]
  iintro HO
  iexists W
  isplitr
  · ipureintro; exact fun _ _ => Or.inl trivial
  iexact HO
theorem owesAt_out (c : Dev nD) (s : Fin (cfg0.N + 1)) {O : CellTallies nD τ sig Unit} (h : (dat N t V c).owed s = O) :
    ((dat N t V c).owesAt () s : sProp (MM F)) ⊢ iprop(∃ W, owes (c : Thread nD τ) O W) := by
  unfold Pipeline.Dat.owesAt Pipeline.owesWithin
  rw [h]
  iintro ⟨%W, -, HO⟩
  iexists W
  iexact HO

variable (ht : ∀ c, t c ≤ 1024) (hN : ∀ c, nn c (t c) = N) (hcnt : ∀ c, V c (Proc.devRef .tc main_v53) = fun _ => w32 (t c))

include hcnt in
theorem before0 (c : Dev nD) (u : Fin cfg0.N) (d) : (dat N t V c).before 0 u d = fun _ => w32 (t c) := by
  rw [Pipeline.Dat.before_fetched _ 0 u (fetch0_0 u)]
  show ((cfg0.win 0).blk u).view.read (Elt F) (V c (Proc.devRef .tc main_v53)) = _
  rw [read0, hcnt]
theorem before1 (c : Dev nD) (u : Fin cfg0.N) (d) : (dat N t V c).before 1 u d = sorted V c := by
  rw [Pipeline.Dat.before_fetched _ 1 u (fetch0_1 u)]
  exact read1 (F := F) u _

include ht hN hcnt in
theorem body0 (c : Dev nD) : Pipeline.BodyObligation (dat N t V c) defs₀ 𝒱₀ () Set.univ := fun u => by
  obtain rfl := fin_N0 u
  rw [bigSep_W0, bigSep_W0]
  dsimp only
  simp only [before0 N t V hcnt, before1 N t V]
  rw [show (dat N t V c).Φ t0_0.castSucc = iprop((∃ K, Opened N (sorted V) t K c) ∗ padAny c ∗ ∃ r, prngReg c r) from rfl,
    show (dat N t V c).Φ t0_0.succ = iprop((Yk c ∗ sems0 c) ∗ padAny c ∗ ∃ r, prngReg c r) from rfl]
  iintro ⟨⟨⟨%K, Hop⟩, Hpad, Hreg⟩, HO, ⟨%d0, H0⟩, ⟨%d1, H1⟩, ⟨%d2, H2⟩⟩
  ihave HO := (owesAt_out N t V c _ (owed_first N t V c _ rfl)) $$ HO
  icases HO with ⟨%W, HO⟩
  ihave H0 := (Entails.of_eq (owns_whole (c : Thread nD τ) cc0_stg0_0 fullShare (fun _ => w32 (t c) : cc0_stg0_0.ty.Contents (Elt F)))) $$ H0
  ihave H1 := (Entails.of_eq (owns_whole (c : Thread nD τ) cc0_stg1_0 fullShare (sorted V c))) $$ H1
  ihave H2 := (Entails.of_eq (owns_whole (c : Thread nD τ) cc0_stg2_0 fullShare _)) $$ H2
  iapply (body_whole N (sorted V) t K c ht hN _ W)
  isplitl [Hop H0 H1 H2 Hpad HO]
  · isplitl [Hop]; · iexact Hop
    isplitl [H1]; · iexact H1
    isplitl [H2]; · iexact H2
    isplitl [Hpad]; · iexact Hpad
    isplitl [H0]; · unfold cntPts; iexact H0
    iexact HO
  unfold Closed cntPts
  iintro ⟨H1, H2, Hpad, H0, Hb, Hs, Hr, ⟨%W', HO⟩⟩
  isplitl [Hb Hs Hr Hpad Hreg]
  · isplitl [Hb Hs Hr]
    · isplitl [Hb]; · unfold Yk; iexact Hb
      unfold sems0
      isplitl [Hs]; · iexact Hs
      iexact Hr
    isplitl [Hpad]; · iexact Hpad
    iexact Hreg
  isplitl [HO]
  · iapply (owesAt_in N t V c t0_0.succ (owed_last N t V c _ (by decide)) W')
    iexact HO
  isplitl [H0]
  · iapply (Entails.of_eq (owns_whole (c : Thread nD τ) cc0_stg0_0 fullShare (fun _ => w32 (t c) : cc0_stg0_0.ty.Contents (Elt F))).symm)
    iexact H0
  isplitl [H1]
  · iapply (Entails.of_eq (owns_whole (c : Thread nD τ) cc0_stg1_0 fullShare (sorted V c)).symm)
    iexact H1
  iapply (Entails.of_eq (owns_whole (c : Thread nD τ) cc0_stg2_0 fullShare (OUT (sorted V) t c)).symm)
  iexact H2

/-! ## Opening the chunks' cells -/

/-- What a device brings to the call: its cells' invariants and the tokens of what it pays, the chunks' cells not yet open. -/
def Ghost (K : GSem nD τ sig → ℕ) (c : Dev nD) : sProp (MM F) :=
  iprop((bigSep (Finset.range 17) fun k => iprop(cellInv ER (Rd N (sorted V) t) (K (sendCell c k)) (sendCell c k)
      ∗ cellInv ER (Rd N (sorted V) t) (K (recvCell c k)) (recvCell c k)
      ∗ cellInv ER (Rd N (sorted V) t) (K (recvCell (pr c) k)) (recvCell (pr c) k)))
    ∗ (cellInv ER (Rd N (sorted V) t) (K (barCell c)) (barCell c) ∗ cellInv ER (Rd N (sorted V) t) (K (barCell (pr c))) (barCell (pr c))
      ∗ reached ER (barCell (pr c)) 0)
    ∗ (bigSep (Finset.range 17) fun k => iprop(openTok ER (sendCell c k) ∗ openTok ER (recvCell c k)))
    ∗ (bigSep (Finset.range 17) fun k => iprop(dutyTok ER (sendCell c k) 0 () ∗ dutyTok ER (recvCell (pr c) k) 0 ()))
    ∗ dutyTok ER (barCell (pr c)) 0 () ∗ atPos ER (barCell c) 0 ∅ 0)

/-- The credit a device waits on: the partner's signal, and each chunk the partner sends. -/
def Creds (c : Dev nD) : sProp (MM F) :=
  iprop(cred (tallyAt (barCell c) () 1) ∗ bigSep (Finset.range 17) fun k => if act N k then cred (tallyAt (recvCell c k) () amt) else iprop(emp))

def Tk (c : Dev nD) : sProp (MM F) := iprop((∃ K, Ghost N t V K c) ∗ Creds N c)

theorem ownSems_eq (c : Dev nD) : (Pipeline.ownSems0 osem c : sProp (MM F)) = sems0 c := by
  unfold Pipeline.ownSems0 sems0
  rw [bigSep_univ_prod, BI.bigSep_fin_two (fun j : Fin 2 => bigSep Finset.univ fun k : Fin 17 => (semVal ((c : Thread nD τ), osem (j, k)) 0 : sProp (MM F)))]
  exact congrArg₂ BI.sep (Ring.bigSep_fin_eq_range 17 (fun k : Fin 17 => (semVal (sendCell c k.val) 0 : sProp (MM F))) _ (fun _ _ => rfl))
    (Ring.bigSep_fin_eq_range 17 (fun k : Fin 17 => (semVal (recvCell c k.val) 0 : sProp (MM F))) _ (fun _ _ => rfl))

theorem open_one (K : GSem nD τ sig → ℕ) (g : GSem nD τ sig) :
    iprop(cellInv ER (Rd N (sorted V) t) (K g) g ∗ openTok ER g ∗ semVal g 0)
      ⊢ (|={Set.univ}=> iprop(atPos ER g 0 ∅ 0 ∗ reached ER g 0) : sProp (MM F)) :=
  Rounds.cell_open ER (Rd N (sorted V) t) (g := g) (Set.mem_univ (K g))

/-- What one chunk's pair of cells holds once open. -/
def openedOne (c : Dev nD) (k : ℕ) : sProp (MM F) :=
  iprop((atPos ER (sendCell c k) 0 ∅ 0 ∗ reached ER (sendCell c k) 0) ∗ (atPos ER (recvCell c k) 0 ∅ 0 ∗ reached ER (recvCell c k) 0))

theorem open_chunks (K : GSem nD τ sig → ℕ) (c : Dev nD) :
    iprop((bigSep (Finset.range 17) fun k => iprop(cellInv ER (Rd N (sorted V) t) (K (sendCell c k)) (sendCell c k)
        ∗ cellInv ER (Rd N (sorted V) t) (K (recvCell c k)) (recvCell c k)
        ∗ cellInv ER (Rd N (sorted V) t) (K (recvCell (pr c) k)) (recvCell (pr c) k)))
      ∗ (bigSep (Finset.range 17) fun k => iprop(openTok ER (sendCell c k) ∗ openTok ER (recvCell c k))) ∗ sems0 c)
      ⊢ (|={Set.univ}=> bigSep (Finset.range 17) (openedOne c) : sProp (MM F)) := by
  unfold sems0
  rw [← bigSep_sep', ← bigSep_sep', ← bigSep_sep']
  refine .trans (bigSep_le (Ψ := fun k => iprop(|={Set.univ}=> openedOne c k)) fun k _ => ?_) (bigSep_fupd _ _)
  iintro ⟨⟨#Hs, #Hr, -⟩, ⟨Hos, Hor⟩, Hvs, Hvr⟩
  imod (open_one N t V K (sendCell c k)) $$ [Hos Hvs] with H1
  · isplitr; · iexact Hs
    isplitl [Hos] <;> iassumption
  imod (open_one N t V K (recvCell c k)) $$ [Hor Hvr] with H2
  · isplitr; · iexact Hr
    isplitl [Hor] <;> iassumption
  imodintro
  unfold openedOne
  isplitl [H1] <;> iassumption

theorem opening (c : Dev nD) :
    iprop(Tk N t V c ∗ Pipeline.ownSems0 osem c ∗ levAts L lv) ⊢ (|={Set.univ}=> Xk N t V c : sProp (MM F)) := by
  rw [ownSems_eq]
  unfold Tk Xk Ghost Creds
  iintro ⟨⟨⟨%K, #HI, ⟨#Hb, #Hbp, #Hrp⟩, Ho, Ht, HtB, Hat⟩, HcB, Hc⟩, Hv, #Hlev⟩
  imod (open_chunks N t V K c) $$ [Ho Hv] with H
  · isplitr; · iexact HI
    isplitl [Ho] <;> iassumption
  imodintro
  iexists K
  ihave H := (show bigSep (Finset.range 17) (openedOne (F := F) c) ⊢ iprop(((bigSep (Finset.range 17) fun k => atPos ER (sendCell c k) 0 ∅ 0)
      ∗ bigSep (Finset.range 17) fun k => reached ER (sendCell c k) 0) ∗ (bigSep (Finset.range 17) fun k => atPos ER (recvCell c k) 0 ∅ 0)
      ∗ bigSep (Finset.range 17) fun k => reached ER (recvCell c k) 0) from Entails.of_eq (by rw [← bigSep_sep', ← bigSep_sep', ← bigSep_sep']; rfl)) $$ H
  icases H with ⟨⟨Has, #Hrs⟩, Har, #Hrr⟩
  unfold Opened inv bars
  isplitr
  · iapply (show iprop((bigSep (Finset.range 17) fun k => iprop(cellInv ER (Rd N (sorted V) t) (K (sendCell c k)) (sendCell c k)
        ∗ cellInv ER (Rd N (sorted V) t) (K (recvCell c k)) (recvCell c k)
        ∗ cellInv ER (Rd N (sorted V) t) (K (recvCell (pr c) k)) (recvCell (pr c) k)))
      ∗ bigSep (Finset.range 17) fun k => reached ER (sendCell c k) 0) ⊢ bigSep (Finset.range 17) fun k =>
        iprop(cellInv ER (Rd N (sorted V) t) (K (sendCell c k)) (sendCell c k) ∗ cellInv ER (Rd N (sorted V) t) (K (recvCell c k)) (recvCell c k)
          ∗ cellInv ER (Rd N (sorted V) t) (K (recvCell (pr c) k)) (recvCell (pr c) k) ∗ reached ER (sendCell c k) 0) from by
      rw [← bigSep_sep']
      exact bigSep_le fun k _ => by
        iintro ⟨⟨H1, H2, H3⟩, H4⟩
        isplitl [H1]; · iexact H1
        isplitl [H2]; · iexact H2
        isplitl [H3] <;> iassumption)
    isplitr; · iexact HI
    iexact Hrs
  isplitr
  · isplitr; · iexact Hb
    isplitr; · iexact Hbp
    isplitr; · iexact Hrp
    iexact Hlev
  isplitl [Ht Has]
  · iapply (show iprop((bigSep (Finset.range 17) fun k => iprop(dutyTok ER (sendCell c k) 0 () ∗ dutyTok ER (recvCell (pr c) k) 0 ()))
      ∗ bigSep (Finset.range 17) fun k => (atPos ER (sendCell c k) 0 ∅ 0 : sProp (MM F))) ⊢ bigSep (Finset.range 17) fun k =>
        iprop(dutyTok ER (sendCell c k) 0 () ∗ dutyTok ER (recvCell (pr c) k) 0 () ∗ atPos ER (sendCell c k) 0 ∅ 0) from by
      rw [← bigSep_sep']
      exact bigSep_le fun k _ => by
        iintro ⟨⟨H1, H2⟩, H3⟩
        isplitl [H1]; · iexact H1
        isplitl [H2] <;> iassumption)
    isplitl [Ht] <;> iassumption
  isplitl [Hc Har]
  · iapply (Entails.of_eq (bigSep_sep' (s := Finset.range 17) (Φ := fun k => if act N k then cred (tallyAt (recvCell c k) () amt) else iprop(emp))
      (Ψ := fun k => (atPos ER (recvCell c k) 0 ∅ 0 : sProp (MM F)))).symm)
    isplitl [Hc] <;> iassumption
  isplitr; · iexact Hrr
  isplitl [HtB]; · iexact HtB
  isplitl [HcB] <;> iassumption

/-! ## The call as a segment of the program -/

/-- The buffers after the call: the result written. -/
def after (c : Dev nD) : Valuation τ sig (Elt F) := Function.update (V c) (Proc.devRef .tc main_v54) (OUT (sorted V) t c)

theorem scopedRest_eq (c : Dev nD) : (Pipeline.scopedRest (Ix := Unit) (Name := ℕ) (U := UU) (Lvl := ℕ) (Val := Elt F)
    (Pipeline.pin (pcfgs (F := F)) adm 0).spec c : sProp (MM F)) = padAny c := scopedRest0_eq c

theorem held_none (c : Dev nD) (W : Valuation τ sig (Elt F)) : (StableHlo.held (c.tc : Thread nD τ) ∅ W : sProp (MM F)) = BI.emp := by
  unfold StableHlo.held; exact BI.bigSep_empty

theorem entering (c : Dev nD) : iprop(Pipeline.scopedRest (Pipeline.pin (pcfgs (F := F)) adm 0).spec c ∗ (∃ r, prngReg c r)
    ∗ StableHlo.held (c.tc : Thread nD τ) ∅ (V c) ∗ Xk N t V c) ⊢ (pdats N t V 0 c).Φ 0 := by
  rw [show (pdats N t V 0 c).Φ 0 = iprop(Xk N t V c ∗ padAny c ∗ ∃ r, prngReg c r) from rfl, scopedRest_eq, held_none]
  iintro ⟨Hs, Hp, -, HX⟩
  isplitl [HX]; · iexact HX
  isplitl [Hs] <;> iassumption

theorem leaving (c : Dev nD) : (pdats N t V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (after t V c) ∗ Pipeline.ownSems0 osem c ∗ Yk c) := by
  rw [show (pdats N t V 0 c).Φ (Fin.last _) = iprop((Yk c ∗ sems0 c) ∗ padAny c ∗ ∃ r, prngReg c r) from rfl, scopedRest_eq, held_none, ownSems_eq]
  iintro ⟨⟨HY, Hv⟩, Hs, Hp⟩
  isplitl [Hs]; · iexact Hs
  isplitl [Hp]; · iexact Hp
  isplitr; · iempintro
  isplitl [Hv] <;> iassumption

theorem owed_pos {c : Dev nD} {g : GSem nD τ sig} {u : Unit} (h : 0 < O₀ N c g u) : L g = {()} ∧ 0 < lv g u := by
  unfold O₀ at h
  rw [Pi.add_apply, Finsupp.add_apply] at h
  rcases Nat.add_pos_iff_pos_or_pos.mp h with h | h
  · obtain ⟨k, hk, rfl⟩ := Ow_pos h
    exact ⟨L_tc _ _, by rw [show u = () from rfl, lv_recv _ hk]; decide⟩
  · rw [tallyAt_apply] at h
    split at h
    · next hg => rw [hg.1]; exact ⟨L_tc _ _, Nat.one_pos⟩
    · exact absurd h (Nat.lt_irrefl 0)

theorem cut (c : Dev nD) (s : Fin ((Pipeline.pin (pcfgs (F := F)) adm 0).N + 1)) (g : GSem nD τ sig) (i : Unit)
    (h : 0 < (pdats N t V 0 c).owed s g i) : i ∈ L g ∧ 0 < lv g i := by
  have e : (pdats N t V 0 c).owed s = if s.val = 0 then O₀ N c else 0 := rfl
  rw [e] at h
  split at h
  · obtain ⟨h1, h2⟩ := owed_pos N h
    exact ⟨h1 ▸ Finset.mem_singleton_self _, h2⟩
  · exact absurd h (Nat.lt_irrefl 0)

theorem noflush0 : ∀ u : Fin cfg0.N, (cfg0.win 0).flush u = false := (by decide +kernel : ∀ u : Fin grid0.N, win0_0.flush u = false)
theorem noflush1 : ∀ u : Fin cfg0.N, (cfg0.win 1).flush u = false := (by decide +kernel : ∀ u : Fin grid0.N, win0_1.flush u = false)

theorem at_end (c : Dev nD) (w : Fin 3) : (pdats N t V 0 c).arrAt w (Pipeline.pin (pcfgs (F := F)) adm 0).N
    = after t V c (Proc.devRef .tc (Pipeline.arrRef (Pipeline.pin (pcfgs (F := F)) adm 0).spec w)) := by
  rw [show (Pipeline.pin (pcfgs (F := F)) adm 0).N = 0 + 1 from N_0]
  have h : 0 < cfg0.N := by rw [show cfg0.N = 1 from N_0]; decide
  show (if h : 0 < cfg0.N then (if (cfg0.win w).flush ⟨0, h⟩ then ((cfg0.win w).blk ⟨0, h⟩).view.write (Elt F) ((dat N t V c).A w)
    ((dat N t V c).flushed w ⟨0, h⟩) Finset.univ else (dat N t V c).A w) else (dat N t V c).A w) = _
  rw [dif_pos h]
  unfold after
  match w with
  | 0 =>
    refine (if_neg (by rw [noflush0]; decide)).trans ?_
    exact (Function.update_of_ne (StableHlo.devRef_ne_of_ne (by decide : main_v53 ≠ main_v54)) (OUT (sorted V) t c) (V c)).symm
  | 1 =>
    refine (if_neg (by rw [noflush1]; decide)).trans ?_
    exact (Function.update_of_ne (StableHlo.devRef_ne_of_ne (by decide : main_v52 ≠ main_v54)) (OUT (sorted V) t c) (V c)).symm
  | 2 =>
    refine (if_pos (flush0_2 _)).trans ?_
    refine (write2 ⟨0, h⟩ (V c (Proc.devRef .tc main_v54)) (OUT (sorted V) t c)).trans ?_
    exact (Function.update_self (Proc.devRef .tc main_v54) (OUT (sorted V) t c) (V c)).symm

theorem last_ne : (Fin.last cfg0.N).val ≠ 0 := by decide

theorem stage_low (w : Fin 3) (s : Fin ((win0 w).nbuf)) : (((win0 w).sem s).val < 19 ∨ ((win0 w).sem s).val = 35) := by
  match w with
  | 0 => exact .inl (by decide +revert)
  | 1 => exact .inl (by decide +revert)
  | 2 => exact .inl (by decide +revert)

/-- The buffers the call has no window on. -/
abbrev others : Finset (DevRef τ sig) := Pipeline.ucRefs τ sig \ Pipeline.arrRefs (τ := τ) spec0

theorem rest_kept (c : Dev nD) (b : DevRef τ sig) (hb : b ∈ others \ ∅) : after t V c b = V c b := by
  unfold after
  refine Function.update_of_ne ?_ _ _
  rintro rfl
  exact absurd hb (by decide)

theorem osem_facts : Pipeline.OwnSemFacts spec0 osem := by decide

set_option backward.isDefEq.respectTransparency.types false in
def reg : Pipeline.RegionSeg (pcfgs (F := F)) adm (pdats N t V) () defs₀ 𝒱₀ L lv 0 :=
  Pipeline.RegionSeg.ofTalk (pcfgs (F := F)) adm (pdats N t V) () defs₀ 𝒱₀ L lv 0 osem osem_facts
    ∅ others (Finset.empty_subset _) (launch0.toP) rfl (fun c => (body0 N t V ht hN hcnt c).loose)
    (fun _ => 0) (O₀ N) (fun c => (owed_first N t V c _ rfl).trans (zero_add _).symm) (fun c => owed_last N t V c _ last_ne) (fun _ => rfl)
    (fun _ w => by fin_cases w <;> rfl)
    V (after t V) (fun c b hb => rest_kept t V c b hb)
    (Tk N t V) Yk (Xk N t V) Yk (opening N t V) (entering N t V) (leaving N t V)
    (fun c => by iintro H; imodintro; iexact H)
    (fun _ => 0)
    ⟨fun c w s => by rw [L_tc]; exact Finset.mem_singleton_self _, fun c w s => le_of_eq (if_pos (stage_low w s)), fun c s g i h => cut N t V c s g i h⟩
    (fun _ => iprop(emp))
    (fun c w => by fin_cases w <;> rfl) (fun c w => at_end N t V c w)

end Call

end Cert.Exchange
-- ==== Proof.Fund.lean ====
/- The launch: every cell's invariant is made, the chunks' cells to be opened at the call, and the tokens and the credit
   are dealt to the devices that pay and wait. -/
module
public import proofs.«01_k».proof.Proof.Region
public import Idealize.ShloMosaic.Harness.Basic

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

theorem osem_inj : Function.Injective osem := by decide
theorem osem_ne_bar : ∀ j : Fin 2 × Fin 17, osem j ≠ .reg barS := by decide

def barEmb : Dev nD ↪ GSem nD τ sig := ⟨fun c => barCell c, fun _ _ h => congrArg (fun g : GSem nD τ sig => g.1.1) h⟩
def chunkEmb : Dev nD × (Fin 2 × Fin 17) ↪ GSem nD τ sig :=
  ⟨fun x => ((x.1 : Thread nD τ), osem x.2), fun _ _ h =>
    Prod.ext (congrArg (fun g : GSem nD τ sig => g.1.1) h) (osem_inj (congrArg Prod.snd h))⟩
def tokEmb : GSem nD τ sig ↪ GSem nD τ sig × ℕ × Unit := ⟨fun g => (g, 0, ()), fun _ _ h => congrArg Prod.fst h⟩

abbrev barCells : Finset (GSem nD τ sig) := Finset.univ.map barEmb
abbrev chunkCells : Finset (GSem nD τ sig) := Finset.univ.map chunkEmb
abbrev allCells : Finset (GSem nD τ sig) := barCells ∪ chunkCells
abbrev allToks : Finset (GSem nD τ sig × ℕ × Unit) := allCells.map tokEmb

theorem cells_disjoint : Disjoint barCells chunkCells := by
  rw [Finset.disjoint_left]
  rintro g h1 h2
  obtain ⟨c, -, rfl⟩ := Finset.mem_map.mp h1
  obtain ⟨x, -, h⟩ := Finset.mem_map.mp h2
  exact osem_ne_bar x.2 (congrArg Prod.snd h)

theorem bar_mem (c : Dev nD) : barCell c ∈ allCells :=
  Finset.mem_union_left _ (Finset.mem_map_of_mem barEmb (Finset.mem_univ c))
theorem send_mem (c : Dev nD) {k : ℕ} (hk : k < 17) : sendCell c k ∈ allCells :=
  Finset.mem_union_right _ (Finset.mem_map_of_mem chunkEmb (Finset.mem_univ (c, ((0 : Fin 2), (⟨k, hk⟩ : Fin 17)))))
theorem recv_mem (c : Dev nD) {k : ℕ} (hk : k < 17) : recvCell c k ∈ allCells :=
  Finset.mem_union_right _ (Finset.mem_map_of_mem chunkEmb (Finset.mem_univ (c, ((1 : Fin 2), (⟨k, hk⟩ : Fin 17)))))

theorem over_bars (Φ : GSem nD τ sig → sProp (MM F)) : bigSep barCells Φ = bigSep Finset.univ fun c : Dev nD => Φ (barCell c) :=
  bigSep_map barEmb

theorem over_chunks (Φ : GSem nD τ sig → sProp (MM F)) : bigSep chunkCells Φ = bigSep Finset.univ fun c : Dev nD =>
    iprop((bigSep (Finset.range 17) fun k => Φ (sendCell c k)) ∗ bigSep (Finset.range 17) fun k => Φ (recvCell c k)) := by
  rw [bigSep_map, bigSep_univ_prod]
  refine bigSep_congr fun c _ => ?_
  rw [bigSep_univ_prod, BI.bigSep_fin_two (fun j : Fin 2 => bigSep Finset.univ fun k : Fin 17 => Φ (chunkEmb (c, (j, k))))]
  exact congrArg₂ BI.sep (Ring.bigSep_fin_eq_range 17 (fun k : Fin 17 => Φ (sendCell c k.val)) _ (fun _ _ => rfl))
    (Ring.bigSep_fin_eq_range 17 (fun k : Fin 17 => Φ (recvCell c k.val)) _ (fun _ _ => rfl))

/-- Every device named once by its partner. -/
theorem over_partners (Φ : Dev nD → sProp (MM F)) : bigSep Finset.univ Φ = bigSep Finset.univ fun c : Dev nD => Φ (pr c) :=
  bigSep_univ_equiv (⟨pr, pr, pr_pr, pr_pr⟩ : Dev nD ≃ Dev nD) Φ

/-! ## What each device takes from the launch -/

section Deal

variable (N : ℕ) (t : Dev nD → ℕ) (V : Dev nD → Valuation τ sig (Elt F))

/-- What every device may consult: the invariants under one map of names, and the barrier cells open. -/
def records (κ : GSem nD τ sig → ℕ) : sProp (MM F) :=
  iprop((bigSep allCells fun g => cellInv ER (Rd N (sorted V) t) (κ g) g) ∗ bigSep barCells fun g => reached ER g 0)
instance records_persistent (κ : GSem nD τ sig → ℕ) : BI.Persistent (records N t V κ) := by unfold records; infer_instance

theorem record_at (κ : GSem nD τ sig → ℕ) {g : GSem nD τ sig} (hg : g ∈ allCells) :
    records N t V κ ⊢ cellInv ER (Rd N (sorted V) t) (κ g) g := by
  unfold records
  iintro ⟨H, -⟩
  iapply (show (bigSep allCells fun g => (cellInv ER (Rd N (sorted V) t) (κ g) g : sProp (MM F))) ⊢ _ from bigSep_elim hg)
  iexact H
theorem record_open (κ : GSem nD τ sig → ℕ) (c : Dev nD) : records N t V κ ⊢ reached ER (barCell c) 0 := by
  unfold records
  iintro ⟨-, H⟩
  iapply (show (bigSep barCells fun g => (reached ER g 0 : sProp (MM F))) ⊢ _ from bigSep_elim (Finset.mem_map_of_mem barEmb (Finset.mem_univ c)))
  iexact H

theorem bigSep_all {I : Type} [DecidableEq I] {s : Finset I} {R : sProp (MM F)} [BI.Persistent R] {Φ : I → sProp (MM F)}
    (h : ∀ i ∈ s, R ⊢ Φ i) : R ⊢ bigSep s Φ := by
  refine .trans (?_ : R ⊢ iprop(R ∗ bigSep s fun _ => iprop(emp))) (bigSep_with_persistent (Φ := fun _ => iprop(emp)) fun i hi => ?_)
  · rw [show (bigSep s fun _ => (iprop(emp) : sProp (MM F))) = BI.emp from BI.bigSep_emp_const s]
    iintro H
    isplitl [H]; · iexact H
    iempintro
  · show iprop(R ∗ emp) ⊢ Φ i
    iintro ⟨H, -⟩
    iapply (h i hi); iexact H

/-- What stays with device `c` alone: its barrier position, its rights to open its chunks' cells, the tokens of what it pays. -/
def share (c : Dev nD) : sProp (MM F) :=
  iprop(atPos ER (barCell c) 0 ∅ 0
    ∗ ((bigSep (Finset.range 17) fun k => openTok ER (sendCell c k)) ∗ bigSep (Finset.range 17) fun k => openTok ER (recvCell c k))
    ∗ dutyTok ER (barCell (pr c)) 0 ()
    ∗ (bigSep (Finset.range 17) fun k => dutyTok ER (sendCell c k) 0 ()) ∗ bigSep (Finset.range 17) fun k => dutyTok ER (recvCell (pr c) k) 0 ())

theorem ghost_of (κ : GSem nD τ sig → ℕ) (c : Dev nD) : iprop(records N t V κ ∗ share c) ⊢ iprop(∃ K, Ghost N t V K c) := by
  have hI : records N t V κ ⊢ bigSep (Finset.range 17) fun k => iprop(cellInv ER (Rd N (sorted V) t) (κ (sendCell c k)) (sendCell c k)
      ∗ cellInv ER (Rd N (sorted V) t) (κ (recvCell c k)) (recvCell c k)
      ∗ cellInv ER (Rd N (sorted V) t) (κ (recvCell (pr c) k)) (recvCell (pr c) k)) := by
    refine bigSep_all fun k hk => ?_
    have hk := Finset.mem_range.mp hk
    iintro #H
    isplitr; · iapply (record_at N t V κ (send_mem c hk)); iexact H
    isplitr; · iapply (record_at N t V κ (recv_mem c hk)); iexact H
    iapply (record_at N t V κ (recv_mem (pr c) hk)); iexact H
  unfold share Ghost
  rw [bigSep_sep', bigSep_sep']
  iintro ⟨#HR, Hat, ⟨Hos, Hor⟩, HtB, Hts, Htr⟩
  iexists κ
  isplitr; · iapply hI; iexact HR
  isplitr
  · isplitr; · iapply (record_at N t V κ (bar_mem c)); iexact HR
    isplitr; · iapply (record_at N t V κ (bar_mem (pr c))); iexact HR
    iapply (record_open N t V κ (pr c)); iexact HR
  isplitl [Hos Hor]; · isplitl [Hos] <;> iassumption
  isplitl [Hts Htr]; · isplitl [Hts] <;> iassumption
  isplitl [HtB] <;> iassumption

theorem toks_dealt : bigSep allToks (fun x => (dutyTok ER x.1 x.2.1 x.2.2 : sProp (MM F)))
    ⊢ bigSep Finset.univ fun c : Dev nD => iprop(dutyTok ER (barCell (pr c)) 0 ()
      ∗ (bigSep (Finset.range 17) fun k => dutyTok ER (sendCell c k) 0 ()) ∗ bigSep (Finset.range 17) fun k => dutyTok ER (recvCell (pr c) k) 0 ()) := by
  refine Entails.of_eq ?_
  rw [bigSep_map, bigSep_union cells_disjoint, over_bars, over_chunks, bigSep_sep', bigSep_sep', bigSep_sep',
    over_partners fun c => dutyTok ER (tokEmb (barCell c)).1 (tokEmb (barCell c)).2.1 (tokEmb (barCell c)).2.2,
    over_partners fun c => bigSep (Finset.range 17) fun k => dutyTok ER (tokEmb (recvCell c k)).1 (tokEmb (recvCell c k)).2.1 (tokEmb (recvCell c k)).2.2]
  rfl

/-! ## The credit -/

theorem recvS_inj : ∀ k k' : Fin 17, recvS k.val = recvS k'.val → k = k' := by decide

theorem recvCell_eq {c d : Dev nD} {k k' : ℕ} (hk : k < 17) (hk' : k' < 17) (h : recvCell c k = recvCell d k') : c = d ∧ k = k' := by
  refine ⟨congrArg (fun g : GSem nD τ sig => g.1.1) h, ?_⟩
  have h2 : (SemLoc.dma (recvS k) : SemLoc sig) = .dma (recvS k') := congrArg Prod.snd h
  exact congrArg Fin.val (recvS_inj ⟨k, hk⟩ ⟨k', hk'⟩ (SemLoc.dma.inj h2))

theorem owed_bar (d c : Dev nD) : O₀ N d (barCell c) () = if d = pr c then 1 else 0 := by
  unfold O₀
  rw [Pi.add_apply, Finsupp.add_apply, tallyAt_apply]
  have h0 : Ow N d 0 (barCell c) () = 0 := by
    rcases Nat.eq_zero_or_pos (Ow N d 0 (barCell c) ()) with h | h
    · exact h
    · obtain ⟨k, -, h⟩ := Ow_pos h
      exact absurd (congrArg Prod.snd h) (by simp)
  rw [h0, Nat.zero_add]
  refine if_congr ⟨fun h => ?_, fun h => ⟨by rw [h, pr_pr], rfl⟩⟩ rfl rfl
  have := congrArg (fun g : GSem nD τ sig => g.1.1) h.1
  rw [show c = pr d from this, pr_pr]

theorem owed_recv (d c : Dev nD) {k : ℕ} (hk : k < 17) : O₀ N d (recvCell c k) () = if d = pr c then (if act N k then amt else 0) else 0 := by
  unfold O₀ Ow
  rw [Pi.add_apply, Finsupp.add_apply, tallyAt_apply, if_neg (fun h => absurd (congrArg Prod.snd h.1) (by simp)), Nat.add_zero,
    Finset.sum_apply, Finsupp.finset_sum_apply]
  have e : ∀ k' ∈ (Finset.range 17).filter (fun k' => act N k' ∧ 0 ≤ k'), tallyAt (recvCell (pr d) k') () amt (recvCell c k) ()
      = if k = k' then (if d = pr c then amt else 0) else 0 := by
    intro k' hk'
    have hk' := Finset.mem_range.mp (Finset.mem_filter.mp hk').1
    rw [tallyAt_apply]
    by_cases h1 : k = k'
    · by_cases h2 : d = pr c
      · rw [if_pos h1, if_pos h2, if_pos ⟨by rw [h1, h2, pr_pr], rfl⟩]
      · rw [if_pos h1, if_neg h2, if_neg fun h => h2 (by rw [(recvCell_eq hk hk' h.1).1, pr_pr])]
    · rw [if_neg h1, if_neg fun h => h1 (recvCell_eq hk hk' h.1).2]
  rw [Finset.sum_congr rfl e, Finset.sum_ite_eq]
  by_cases h1 : act N k
  · rw [if_pos (Finset.mem_filter.mpr ⟨Finset.mem_range.mpr hk, h1, Nat.zero_le _⟩), if_pos h1]
  · rw [if_neg fun h => h1 (Finset.mem_filter.mp h).2.1, if_neg h1, ite_self]

theorem credit_bar (c : Dev nD) : tallyOn (barCell c) (launchCredit (Pipeline.owing (O₀ N)) 0 (barCell c))
    = (tallyAt (barCell c) () 1 : CellTallies nD τ sig Unit) := by
  unfold tallyAt
  refine congrArg _ (Finsupp.ext fun u => ?_)
  cases u
  rw [Pipeline.launchCredit_owing, Finsupp.single_eq_same, Finset.sum_congr rfl fun d _ => owed_bar N d c,
    Finset.sum_ite_eq' Finset.univ (pr c) fun _ => 1, if_pos (Finset.mem_univ _)]
theorem credit_recv (c : Dev nD) {k : ℕ} (hk : k < 17) (ha : act N k) :
    tallyOn (recvCell c k) (launchCredit (Pipeline.owing (O₀ N)) 0 (recvCell c k)) = (tallyAt (recvCell c k) () amt : CellTallies nD τ sig Unit) := by
  unfold tallyAt
  refine congrArg _ (Finsupp.ext fun u => ?_)
  cases u
  rw [Pipeline.launchCredit_owing, Finsupp.single_eq_same, Finset.sum_congr rfl fun d _ => owed_recv N d c hk,
    Finset.sum_ite_eq' Finset.univ (pr c) fun _ => if act N k then amt else 0, if_pos (Finset.mem_univ _), if_pos ha]

def recvEmb : Fin 17 ↪ SemLoc sig := ⟨fun k => .dma (recvS k.val), fun _ _ h => recvS_inj _ _ (SemLoc.dma.inj h)⟩

theorem creds_dealt (c : Dev nD) : (Pipeline.launchCred (O₀ N) c : sProp (MM F)) ⊢ Creds N c := by
  unfold Pipeline.launchCred Creds
  rw [bigSep_univ_at _ (SemLoc.reg barS), credit_bar]
  have h : (bigSep (Finset.univ.erase (SemLoc.reg barS)) fun sm : SemLoc sig =>
        (cred (tallyOn ((c : Thread nD τ), sm) (launchCredit (Pipeline.owing (O₀ N)) 0 ((c : Thread nD τ), sm))) : sProp (MM F)))
      ⊢ bigSep (Finset.range 17) fun k => if act N k then cred (tallyAt (recvCell c k) () amt) else iprop(emp) := by
    refine .trans (bigSep_subset (t := Finset.univ.map recvEmb) fun sm hsm => ?_) ?_
    · obtain ⟨k, -, rfl⟩ := Finset.mem_map.mp hsm
      exact Finset.mem_erase.mpr ⟨by simp [recvEmb], Finset.mem_univ _⟩
    · rw [bigSep_map]
      refine .trans (Entails.of_eq (Ring.bigSep_fin_eq_range 17 _ (fun k => (cred (tallyOn (recvCell c k)
        (launchCredit (Pipeline.owing (O₀ N)) 0 (recvCell c k))) : sProp (MM F))) (fun _ _ => rfl))) (bigSep_le fun k hk => ?_)
      by_cases ha : act N k
      · rw [if_pos ha, credit_recv N c (Finset.mem_range.mp hk) ha]
      · rw [if_neg ha]
        iintro -
        iempintro
  iintro ⟨H1, H2⟩
  isplitl [H1]; · iexact H1
  iapply h; iexact H2

end Deal

end Cert.Exchange
-- ==== Proof.Run.lean ====
/- The program's run: the host operations, the exchange, and what every memory holds at the end. -/
module
public import proofs.«01_k».proof.Proof.Fund

@[expose] public section

noncomputable section

namespace Cert.Exchange

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

section Run

variable (N : ℕ) (t : Dev nD → ℕ) (m : (ℓ : Loc nD τ sig) → Buf (Elt F) ℓ) (ρ : Dev nD → PrngReg)

/-- The buffers when the exchange is called. -/
abbrev atCall (c : Dev nD) : Valuation τ sig (Elt F) := V11 m c

/-- What rides beside the buffers: up to the call the tokens and dues of the exchange, after it the barrier at zero. -/
def E : Fin 2 → Dev nD → sProp (MM F)
  | 0 => fun c => iprop((∃ r, prngReg c r) ∗ Tk N t (atCall m) c ∗ ∃ W, owes (c : Thread nD τ) (O₀ N c) W)
  | 1 => fun c => iprop(semVal (barCell c) 0 ∗ ∃ W, owes (c : Thread nD τ) (0 : CellTallies nD τ sig Unit) W)

/-- The protocol's launch resource, kept whole on device 0 until it is dealt. -/
def parked (c : Dev nD) : sProp (MM F) := if c = 0 then BI.own (ER (launchOf barCells chunkCells allToks)) else iprop(emp)

theorem park : (BI.own (ER (launchOf barCells chunkCells allToks)) : sProp (MM F)) ⊢ bigSep Finset.univ (parked (F := F)) := by
  rw [bigSep_univ_at (parked (F := F)) 0, bigSep_congr (s := Finset.univ.erase (0 : Dev nD)) (Ψ := fun _ => (BI.emp : sProp (MM F)))
    fun c hc => by unfold parked; rw [if_neg (Finset.ne_of_mem_erase hc)]; rfl, BI.bigSep_emp_const]
  unfold parked
  rw [if_pos rfl]
  iintro H
  isplitl [H]; · iexact H
  iempintro
theorem unpark : bigSep Finset.univ (parked (F := F)) ⊢ BI.own (ER (launchOf barCells chunkCells allToks)) :=
  (show bigSep Finset.univ (parked (F := F)) ⊢ parked 0 from bigSep_elim (Finset.mem_univ 0)).trans (Entails.of_eq (if_pos rfl))

theorem counters_eq (c : Dev nD) : (unscopedSems0 c : sProp (MM F)) = semVal (barCell c) 0 := by
  unfold unscopedSems0
  rw [show (Finset.univ.filter fun sm : SemLoc sig => ¬ sm.isScoped .tc) = {SemLoc.reg barS} from by decide, BI.bigSep_singleton]

/-- What a device brings to the call besides its part of the protocol's resource. -/
def bundle (c : Dev nD) : sProp (MM F) :=
  iprop(StableHlo.held (c : Thread nD τ) (Pipeline.ucRefs τ sig) (V0 m c) ∗ (∃ r, prngReg c r) ∗ Creds N c ∗ ∃ W, owes (c : Thread nD τ) (O₀ N c) W)

abbrev first (c : Dev nD) : sProp (MM F) := iprop(StableHlo.held (c : Thread nD τ) (Pipeline.ucRefs τ sig) (V0 m c) ∗ E N t m 0 c)

theorem first_of (κ : GSem nD τ sig → ℕ) (c : Dev nD) : iprop(records N t (atCall m) κ ∗ (share c ∗ bundle N m c)) ⊢ first N t m c := by
  unfold bundle first
  show _ ⊢ iprop(StableHlo.held (c : Thread nD τ) (Pipeline.ucRefs τ sig) (V0 m c)
    ∗ (∃ r, prngReg c r) ∗ Tk N t (atCall m) c ∗ ∃ W, owes (c : Thread nD τ) (O₀ N c) W)
  iintro ⟨#HR, Hs, Hh, Hp, Hc, HO⟩
  isplitl [Hh]; · iexact Hh
  isplitl [Hp]; · iexact Hp
  isplitr [HO]
  · unfold Tk
    isplitl [Hs]
    · iapply (ghost_of N t (atCall m) κ c)
      isplitr; · iexact HR
      iexact Hs
    iexact Hc
  iexact HO

theorem init :
    iprop((bigSep Finset.univ fun c : Dev nD => iprop(unscopedBufs c (fun b => m ((c.tc : Thread nD τ).loc b)) ∗ unscopedSems0 c
          ∗ owes (c.tc : Thread nD τ) (O₀ N c) ∅ ∗ Pipeline.launchCred (O₀ N) c ∗ prngReg c (ρ c) ∗ parked c)) ∗ levAts L lv)
      ⊢ (|={Set.univ}=> bigSep Finset.univ (first N t m) : sProp (MM F)) := by
  have hcore (c : Dev nD) : iprop(unscopedBufs c (fun b => m ((c.tc : Thread nD τ).loc b)) ∗ unscopedSems0 c
          ∗ owes (c.tc : Thread nD τ) (O₀ N c) ∅ ∗ Pipeline.launchCred (O₀ N) c ∗ prngReg c (ρ c) ∗ parked c)
      ⊢ (iprop(bundle N m c ∗ (semVal (barCell c) 0 ∗ parked c)) : sProp (MM F)) := by
    rw [show unscopedBufs c (fun b => m ((c.tc : Thread nD τ).loc b)) = StableHlo.held (c : Thread nD τ) (Pipeline.ucRefs τ sig) (V0 m c) from
      Pipeline.unscopedBufs_held c (V0 m c), counters_eq]
    unfold bundle
    iintro ⟨Hh, Hv, HO, Hcr, Hp, HG⟩
    isplitr [Hv HG]
    · isplitl [Hh]; · iexact Hh
      isplitl [Hp]; · iexists (ρ c); iexact Hp
      isplitl [Hcr]; · iapply (creds_dealt N c); iexact Hcr
      iexists ∅; iexact HO
    isplitl [Hv] <;> iassumption
  iintro ⟨H, -⟩
  ihave H := (bigSep_le (s := Finset.univ) fun c _ => hcore c) $$ H
  ihave H := bigSep_unpair $$ H; icases H with ⟨HB, H⟩
  ihave H := bigSep_unpair $$ H; icases H with ⟨Hv, HG⟩
  ihave Hu := (unpark (F := F)) $$ HG
  imod (Rounds.fund_launch ER (Rd N (sorted (atCall m)) t) cells_disjoint (fun g _ h => h) allToks) $$ [Hv Hu] with ⟨%κ, -, #Hinv, #Hr, Hat, Hopen, Htok⟩
  · isplitl [Hv]
    · iapply (Entails.of_eq (over_bars fun g => (semVal g 0 : sProp (MM F))).symm) $$ Hv
    · iexact Hu
  imodintro
  iapply (bigSep_with_persistent (R := records N t (atCall m) κ) (Φ := fun c => iprop(share c ∗ bundle N m c)) fun c _ => first_of N t m κ c)
  isplitr
  · unfold records
    isplitr; · iexact Hinv
    iexact Hr
  iapply bigSep_pair
  isplitr [HB]
  · unfold share
    iapply bigSep_pair; isplitl [Hat]; · iapply (Entails.of_eq (over_bars fun g => (atPos ER g 0 ∅ 0 : sProp (MM F)))) $$ Hat
    iapply bigSep_pair; isplitl [Hopen]; · iapply (Entails.of_eq (over_chunks fun g => (openTok ER g : sProp (MM F)))) $$ Hopen
    iapply (toks_dealt (F := F)) $$ Htok
  · iexact HB

variable (ht : ∀ c, t c ≤ 1024) (hN : ∀ c, nn c (t c) = N) (hcnt : ∀ c, V11 m c (Proc.devRef .tc main_v53) = fun _ => w32 (t c))

theorem arrays_sub : Pipeline.arrRefs (τ := τ) spec0 ⊆ Pipeline.ucRefs τ sig := Pipeline.arrRefs_sub_ucRefs spec0 (by decide)

theorem calling (c : Dev nD) : iprop(StableHlo.held (c : Thread nD τ) (Pipeline.ucRefs τ sig) (V11 m c) ∗ E N t m 0 c)
    ⊢ (reg N t (atCall m) ht hN hcnt).pre c := by
  show iprop(StableHlo.held (c : Thread nD τ) (Pipeline.ucRefs τ sig) (V11 m c) ∗ (∃ r, prngReg c r) ∗ Tk N t (atCall m) c
      ∗ ∃ W, owes (c : Thread nD τ) (O₀ N c) W)
    ⊢ iprop(StableHlo.held (c.tc : Thread nD τ) (Pipeline.arrRefs (τ := τ) spec0) (V11 m c) ∗ (∃ r, prngReg c r)
      ∗ (StableHlo.held (c.tc : Thread nD τ) others (V11 m c) ∗ emp) ∗ Tk N t (atCall m) c ∗ ∃ Wd, owes (c : Thread nD τ) (0 + O₀ N c) Wd)
  rw [StableHlo.held_sub_split (c : Thread nD τ) arrays_sub (V11 m c), zero_add]
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

theorem returning (c : Dev nD) : (reg N t (atCall m) ht hN hcnt).post c
    ⊢ iprop((StableHlo.held (c : Thread nD τ) (Pipeline.ucRefs τ sig) (after t (atCall m) c) ∗ semVal (barCell c) 0)
      ∗ ∃ W, owes (c : Thread nD τ) (0 : CellTallies nD τ sig Unit) W) := by
  show iprop(StableHlo.held (c.tc : Thread nD τ) (Pipeline.arrRefs (τ := τ) spec0) (after t (atCall m) c) ∗ (∃ r, prngReg c r)
      ∗ (StableHlo.held (c.tc : Thread nD τ) others (after t (atCall m) c) ∗ emp) ∗ Yk c ∗ ∃ Wd, owes (c : Thread nD τ) (0 : CellTallies nD τ sig Unit) Wd) ⊢ _
  rw [StableHlo.held_sub_split (c : Thread nD τ) arrays_sub (after t (atCall m) c)]
  unfold Yk
  iintro ⟨Ha, -, ⟨Ho, -⟩, HY, HO⟩
  isplitr [HO]
  · isplitl [Ha Ho]; · isplitl [Ha] <;> iassumption
    iexact HY
  iexact HO

theorem only_barrier : ∀ sm : SemLoc sig, sm.isScoped .tc = false → sm = .reg barS := by decide

theorem mem_uc (r : Ref sig .tc) (h : ¬ r.isScoped = true) : (Proc.devRef .tc r : DevRef τ sig) ∈ Pipeline.ucRefs τ sig :=
  Finset.mem_filter.mpr ⟨StableHlo.devRef_mem_tcRefs r, h⟩

theorem after_arg0 (c : Dev nD) : after t (atCall m) c (Proc.devRef .tc main_arg0) = m ((c.tc : Thread nD τ).loc main_arg0) :=
  V12_main_arg0 m (fun _ r c' => if h : r = main_v54 then h ▸ OUT (sorted (atCall m)) t c' else m ((c' : Thread nD τ).loc r)) c
theorem after_arg1 (c : Dev nD) : after t (atCall m) c (Proc.devRef .tc main_arg1) = m ((c.tc : Thread nD τ).loc main_arg1) :=
  V12_main_arg1 m (fun _ r c' => if h : r = main_v54 then h ▸ OUT (sorted (atCall m)) t c' else m ((c' : Thread nD τ).loc r)) c

set_option backward.isDefEq.respectTransparency.types false in
include ht hN hcnt in
/-- From any memory in which the counts agree with `N`, every execution ends, the arguments as they were, the result the
    exchanged rows, every counter zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v54) = OUT (sorted (V11 m)) t c) ∧ r.2.sem = fun _ => 0) :=
  Pipeline.θ_run_regions_kit_dev_sems (pcfgs (F := F)) adm (pdats N t (atCall m)) () cellOf_inj EP defs₀ 𝒱₀ L lv m ρ main
    (segs m 𝒱₀ L lv (E N t m) () (pdats N t (atCall m)) (reg N t (atCall m) ht hN hcnt))
    (fun c Q => by
      rewrite [main_chain c, Pipeline.Seg.run_eq_chain,
        show (segs m 𝒱₀ L lv (E N t m) () (pdats N t (atCall m)) (reg N t (atCall m) ht hN hcnt) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀ N) (hL := L_of_ne) (G := parked)
    (u₀ := (initOf (Pipeline.cells (Pipeline.pin (pcfgs (F := F)) adm) cellOf_inj) (Pipeline.launchToks (Pipeline.pin (pcfgs (F := F)) adm) cellOf_inj),
      launchOf barCells chunkCells allToks))
    (hu₀ := by
      iintro Hu
      ihave H := (ownU_pair _ _) $$ Hu
      icases H with ⟨HP, HX⟩
      imodintro
      isplitl [HP]; · iexact HP
      iapply (park (F := F)); iexact HX)
    (T₀ := first N t m)
    (Tₙ := fun c => iprop(StableHlo.held (c : Thread nD τ) (Pipeline.ucRefs τ sig) (after t (atCall m) c) ∗ semVal (barCell c) 0))
    (hch := fun c => ⟨.rfl, .rfl, .rfl, .rfl, .rfl, .rfl, .rfl, .rfl, .rfl, .rfl, .rfl, calling N t m ht hN hcnt c, returning N t m ht hN hcnt c⟩)
    (hinit := init N t m ρ)
    (QY := fun c s => (∀ b ∈ Pipeline.ucRefs τ sig, s.mem (c, b) = after t (atCall m) c b) ∧ s.sem (barCell c) = 0)
    (hfin := fun c s' => by
      unfold StableHlo.held
      iintro ⟨⟨Hh, Hb⟩, HSI⟩
      ihave Hr := (pointsTo_read_all (Pipeline.ucRefs τ sig) (fun b => ((c : Thread nD τ).1, b)) (after t (atCall m) c) s') $$ [Hh HSI]
      · isplitl [Hh] <;> iassumption
      icases Hr with ⟨%h, HSI⟩
      icombine HSI Hb gives %hb
      imodintro
      isplitr
      · ipureintro; exact ⟨h, by simpa using hb⟩
      iexact HSI)
    (hQ := fun s h hs => ⟨fun c =>
        ⟨((h c).1 _ (mem_uc main_arg0 (by decide))).trans (after_arg0 t m c),
          ((h c).1 _ (mem_uc main_arg1 (by decide))).trans (after_arg1 t m c),
          ((h c).1 _ (mem_uc main_v54 (by decide))).trans (Function.update_self _ _ _)⟩,
      sem_eq_zero hs fun c sm hsm => by
        obtain rfl := only_barrier sm hsm
        exact (h c).2⟩)

end Run

end Cert.Exchange
-- ==== Proof.Same.lean ====
/- The kernel as printed and the kernel read over exact numbers are one text, so they run alike. -/
module
public import proofs.«01_k».proof.Proof.Gen.Kernel.Regions
public import proofs.«01_k».proof.Proof.Gen.KernelIdeal.Regions

@[expose] public section

noncomputable section

namespace Cert.Exchange

open Idealize.ShloMosaic Idealize.ShloMosaic.TcCoe Idealize.SL.Sem

variable {F : FTy → Type} [FloatOps F]

theorem body_same : @Cert.Kernel.cc0_body F _ = @Cert.KernelIdeal.cc0_body F _ := (rfl)

theorem kernels_same : @Cert.Kernel.defs₀ F _ = @Cert.KernelIdeal.defs₀ F _ := by
  unfold Cert.Kernel.defs₀ Cert.KernelIdeal.defs₀
  refine congrArg Defs.onTc (funext fun l => funext fun a => ?_)
  match l, a with
  | 0, (t, s) => exact congrFun (congrFun (congrFun (congrFun (congrFun (congrFun (congrFun (congrFun (congrFun (congrFun (congrFun (congrFun body_same _) _) _) _) _) _) _) _) _) _) _) _
  | ⟨_ + 1, h⟩, _ => exact absurd h (Nat.not_lt.2 (Nat.le_add_left _ _))

theorem table_same : @Cert.Kernel.defs F _ = @Cert.KernelIdeal.defs F _ := by
  unfold Cert.Kernel.defs Cert.KernelIdeal.defs
  exact congrArg (Pipeline.defs Cert.KernelIdeal.pcfgs) kernels_same

theorem ops_same0 : Cert.Kernel.Gen.hostOps0 (F := F) = Cert.KernelIdeal.Gen.hostOps0 (F := F) := (rfl)
theorem ops_same1 : Cert.Kernel.Gen.hostOps0_1 (F := F) = Cert.KernelIdeal.Gen.hostOps0_1 (F := F) := (rfl)
theorem ops_same2 : Cert.Kernel.Gen.hostOps0_2 (F := F) = Cert.KernelIdeal.Gen.hostOps0_2 (F := F) := (rfl)
theorem ops_same3 : Cert.Kernel.Gen.hostOps0_3 (F := F) = Cert.KernelIdeal.Gen.hostOps0_3 (F := F) := (rfl)
theorem ops_same4 : Cert.Kernel.Gen.hostOps0_4 (F := F) = Cert.KernelIdeal.Gen.hostOps0_4 (F := F) := (rfl)
theorem ops_same5 : Cert.Kernel.Gen.hostOps0_5 (F := F) = Cert.KernelIdeal.Gen.hostOps0_5 (F := F) := (rfl)
theorem ops_same6 : Cert.Kernel.Gen.hostOps0_6 (F := F) = Cert.KernelIdeal.Gen.hostOps0_6 (F := F) := (rfl)
theorem ops_same7 : Cert.Kernel.Gen.hostOps0_7 (F := F) = Cert.KernelIdeal.Gen.hostOps0_7 (F := F) := (rfl)
theorem ops_same8 : Cert.Kernel.Gen.hostOps0_8 (F := F) = Cert.KernelIdeal.Gen.hostOps0_8 (F := F) := (rfl)
theorem ops_same9 : Cert.Kernel.Gen.hostOps0_9 (F := F) = Cert.KernelIdeal.Gen.hostOps0_9 (F := F) := (rfl)
theorem ops_same10 : Cert.Kernel.Gen.hostOps0_10 (F := F) = Cert.KernelIdeal.Gen.hostOps0_10 (F := F) := (rfl)

/-- A piece of the program's main function. -/
abbrev Piece (F : FTy → Type) [FloatOps F] : Type _ :=
  Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit

theorem seq_same {a b : List (HloOp Cert.KernelIdeal.τ Cert.KernelIdeal.sig (Elt F))} (h : a = b) : (StableHlo.seq a : Piece F) = StableHlo.seq b := congrArg _ h
theorem cons_same {a b : Piece F} {l k : List (Piece F)} (h : a = b) (t : l = k) : a :: l = b :: k := by rw [h, t]
theorem chain_same {l k : List (Piece F)} (h : l = k) : (Pipeline.chain l : Piece F) = Pipeline.chain k := congrArg _ h

set_option maxHeartbeats 2000000 in
theorem main_same (c : Dev Cert.KernelIdeal.nD) : Cert.Kernel.main (F := F) c = Cert.KernelIdeal.main (F := F) c := by
  refine (Cert.Kernel.Gen.main_chain c).trans (Eq.trans ?_ (Cert.KernelIdeal.Gen.main_chain c).symm)
  exact chain_same
      (cons_same (seq_same (congrFun ops_same0 c))
      (cons_same (seq_same ops_same1)
      (cons_same (seq_same ops_same2)
      (cons_same (seq_same ops_same3)
      (cons_same (seq_same ops_same4)
      (cons_same (seq_same ops_same5)
      (cons_same (seq_same ops_same6)
      (cons_same (seq_same ops_same7)
      (cons_same (seq_same ops_same8)
      (cons_same (seq_same ops_same9)
      (cons_same (seq_same ops_same10)
      rfl)))))))))))

/-- What holds of the runs of the one holds of the runs of the other. -/
theorem run_same (s : MemSt Cert.KernelIdeal.nD Cert.KernelIdeal.τ Cert.KernelIdeal.sig (Elt F)) (Q) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q :=
  congrArg₂ (fun d (p : Dev Cert.KernelIdeal.nD → Piece F) => θ_run d (onTc (τ := Cert.KernelIdeal.τ) p) s Q) table_same (funext main_same)

end Cert.Exchange
-- ==== Proof.Frames.lean ====
/- Each program runs, leaves its arguments as they were and every counter at zero. -/
module
public import proofs.«01_k».proof.Kernel
public import proofs.«01_k».proof.Proof.Pre
public import proofs.«01_k».proof.Proof.Run
public import proofs.«01_k».proof.Proof.Same
public import proofs.«01_k».proof.Proof.Gen.ReferenceIdeal.Run

@[expose] public section

noncomputable section

namespace Cert.Exchange

open Idealize.ShloMosaic Idealize.ShloMosaic.TcCoe Idealize.SL.Sem

section Run
open Cert.KernelIdeal Cert.KernelIdeal.Gen

variable {F : FTy → Type} [FloatOps F]
variable (m : (ℓ : Loc nD τ sig) → Buf (Elt F) ℓ) (ρ : Dev nD → PrngReg)

/-- The destinations a device holds. -/
abbrev dests (c : Dev nD) : IVec S2048 32 := m ((c.tc : Thread nD τ).loc main_arg1)

theorem count_given (c : Dev nD) : V11 m c (Proc.devRef .tc main_v53) = fun _ => w32 (zeros c (dests m c)) := by
  rw [V11_v53]
  funext i
  exact total_at c _ _

/-- The run, where each device's destinations are spread over `N` chunks. -/
theorem run_spread (N : ℕ) (h : ∀ c : Dev nD, Spread N (dests m c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v54) = OUT (sorted (V11 m)) (fun c => zeros c (dests m c)) c) ∧ r.2.sem = fun _ => 0) :=
  run_main N _ m ρ (fun c => zeros_le c _) (fun c => chunks_eq (h c) c) (count_given m)

/-- The arguments are kept and the counters end at zero, where a predicate holds on every device. -/
theorem frame_ideal (w : BitVec 32) (h : ∀ c : Dev nD, asks w (dests m c) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ q => ⟨fun c => ⟨(q.1 c).1, (q.1 c).2.1⟩, q.2⟩) (run_spread m ρ _ fun c => spread_of w _ (h c))

end Run

section Printed
open Cert.Kernel

/-- The kernel as printed has the same text. -/
theorem frame_kernel (m : (ℓ : Loc nD τ sig) → Buf (Elt Bits) ℓ) (ρ : Dev nD → PrngReg) (w : BitVec 32)
    (h : ∀ c : Dev nD, asks w (m ((c.tc : Thread nD τ).loc main_arg1)) = fun _ => 1#1) :
    θ_run (defs (F := Bits)) (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [run_same]
  exact frame_ideal (F := Bits) m ρ w h

end Printed

section Reference
open Cert.ReferenceIdeal Cert.ReferenceIdeal.Gen

theorem frame_reference (m : (ℓ : Loc nD τ sig) → Buf (Elt Ideal) ℓ) (ρ : Dev nD → PrngReg) :
    θ_run (defs (F := Ideal)) (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.ReferenceIdeal.Value.run m ρ)

end Reference

end Cert.Exchange
-- ==== Proof.Rows.lean ====
/- The rows the exchange is given: the device's own rows in their local places, and again turned. -/
module
public import proofs.«01_k».proof.Proof.Reads
public import proofs.«01_k».proof.Proof.Sched
public import Idealize.ShloMosaic.Lib.Pipeline.Value

@[expose] public section

noncomputable section

namespace Cert.Exchange

open Idealize.ShloMosaic Cert.KernelIdeal Cert.KernelIdeal.Gen
open Idealize.ShloMosaic.Routing Idealize.ShloMosaic.ValueIdx

variable {F : FTy → Type} [FloatOps F]
variable (c : Dev nD) (d : IVec S2048 32)

/-- The place of entry `i` of the half among its 1024. -/
abbrev place (i : ℕ) : ℕ := rank (zeroAt c d) 1024 i

theorem first_at {i j : Fin 1024} (h : place c d i = j) : inverse (ranks (half c d)) (ix1 j) = w32 i :=
  inverse_at _ (place c d) (ranks_at c d) (fun _ hi => rank_lt _ hi) (fun _ _ hi hj e => rank_inj _ hi hj e) i j h

theorem second_at {i j : Fin 1024} (h : turn 1024 (zeros c d) (place c d i) = j) : inverse (turned (half c d)) (ix1 j) = w32 i :=
  inverse_at _ (fun i => turn 1024 (zeros c d) (place c d i)) (turned_at c d) (fun _ hi => turn_lt (rank_lt _ hi))
    (fun _ _ hi hj e => rank_inj _ hi hj (turn_inj (zeros_le c d) (rank_lt _ hi) (rank_lt _ hj) e)) i j h

theorem both_first (j : Fin 1024) (h : j.val < 2048) : both (half c d) (ix1 ⟨j.val, h⟩) = inverse (ranks (half c d)) (ix1 j) :=
  concatenate_pair_apply_left (t := S2048) 0 _ _ concatenates_S1024_S1024_S2048_d0 _ rfl _ (fun b => by
    obtain rfl : b = 0 := Subsingleton.elim _ _
    rfl)

theorem both_second (j : Fin 1024) (h : 1024 + j.val < 2048) : both (half c d) (ix1 ⟨1024 + j.val, h⟩) = inverse (turned (half c d)) (ix1 j) :=
  concatenate_pair_apply_right (t := S2048) 0 _ _ concatenates_S1024_S1024_S2048_d0 _ rfl rfl _ (fun b hb => absurd (Subsingleton.elim _ _) hb)
    (Nat.add_comm _ _)

theorem picks_at (r : Fin 2048) (i : Fin 1024) (h : both (half c d) (ix1 r) = w32 i) : picks (half c d) (ix2 r (0 : Fin 1)) = w32 i := by
  unfold picks
  refine (bcCol _ _ r).trans ?_
  have hi := i.isLt
  show Scalar.select (IntOp.cmpi .slt (both (half c d) (ix1 r)) (broadcastInDim S2048 ![] bcast_S_S2048 (constantI S_ 32 0#32) (ix1 r))) _ _ = _
  rw [bc0, h]
  exact select_not (by rw [show constantI S_ 32 0#32 ix0 = 0#32 from rfl, slt_zero (by omega)]; decide) _ _

variable (m : (ℓ : Loc nD τ sig) → Buf (Elt F) ℓ)

/-- A device's rows. -/
abbrev mat (c : Dev nD) : S1024x512.Idx → Elt F .f32 := m ((c.tc : Thread nD τ).loc main_arg0)

theorem given_at (r : Fin 2048) (i : Fin 1024) (j : Fin 512)
    (h : both (half c (m ((c.tc : Thread nD τ).loc main_arg1))) (ix1 r) = w32 i) :
    V11 m c (Proc.devRef .tc main_v52) (ix2 r j) = mat m c (ix2 i j) := by
  rw [V11_v52]
  exact gather_row _ rfl rfl rfl rfl rfl _ _ r j i (picks_at c _ r i h) (by decide)

/-- Row `place i` of the rows given is row `i` of the device's rows. -/
theorem given_first {i p : Fin 1024} (j : Fin 512) (h : place c (m ((c.tc : Thread nD τ).loc main_arg1)) i = p) :
    V11 m c (Proc.devRef .tc main_v52) (bix p j) = mat m c (ix2 i j) := by
  have hp : p.val < 2048 := by have := p.isLt; omega
  have e : bix p.val j = ix2 ⟨p.val, hp⟩ j := by
    funext a
    match a with
    | ⟨0, _⟩ => exact Fin.ext (Nat.mod_eq_of_lt hp)
    | ⟨1, _⟩ => rfl
  rw [e]
  exact given_at c m _ i j ((both_first c _ p hp).trans (first_at c _ h))

/-- And again, turned, in the second half. -/
theorem given_second {i p : Fin 1024} (j : Fin 512)
    (h : turn 1024 (zeros c (m ((c.tc : Thread nD τ).loc main_arg1))) (place c (m ((c.tc : Thread nD τ).loc main_arg1)) i) = p) :
    V11 m c (Proc.devRef .tc main_v52) (bix (1024 + p) j) = mat m c (ix2 i j) := by
  have hp : 1024 + p.val < 2048 := by have := p.isLt; omega
  have e : bix (1024 + p.val) j = ix2 ⟨1024 + p.val, hp⟩ j := by
    funext a
    match a with
    | ⟨0, _⟩ => exact Fin.ext (Nat.mod_eq_of_lt hp)
    | ⟨1, _⟩ => rfl
  rw [e]
  exact given_at c m _ i j ((both_second c _ p hp).trans (second_at c _ h))

end Cert.Exchange
-- ==== Proof.Order.lean ====
/- The reference's stable sort by destination: the entry it puts at each place, and so its result's rows. -/
module
public import proofs.«01_k».proof.Proof.Reads
public import proofs.«01_k».proof.Proof.Gen.ReferenceIdeal

@[expose] public section

noncomputable section

namespace Cert.Exchange

open Idealize.ShloMosaic Cert.ReferenceIdeal Cert.ReferenceIdeal.Gen
open Idealize.ShloMosaic.Routing Idealize.ShloMosaic.ValueIdx

/-! ## A stable sort by a property -/

section
variable {ι : Type} (p : ι → Bool)

/-- What has the property goes before what has not. -/
abbrev ahead (a b : ι) : Bool := p a && !p b

theorem insert_ahead (a : ι) (h : p a = true) (l : List ι) : insertBefore (ahead p) a l = a :: l := by
  cases l with
  | nil => rfl
  | cons b l => unfold insertBefore; rw [if_neg (by simp [ahead, h])]

theorem insert_behind (a : ι) (h : p a = false) (l k : List ι) (hl : ∀ b ∈ l, p b = true) (hk : ∀ b ∈ k, p b = false) :
    insertBefore (ahead p) a (l ++ k) = l ++ a :: k := by
  induction l with
  | nil =>
    cases k with
    | nil => rfl
    | cons b k =>
      show insertBefore (ahead p) a (b :: k) = _
      unfold insertBefore
      rw [if_neg (by simp [ahead, hk b List.mem_cons_self])]
      rfl
  | cons b l ih =>
    show insertBefore (ahead p) a (b :: (l ++ k)) = _
    unfold insertBefore
    rw [if_pos (by simp [ahead, h, hl b List.mem_cons_self]), ih fun c hc => hl c (List.mem_cons_of_mem _ hc)]
    rfl

theorem sorted_ahead (l : List ι) : stableSort (ahead p) l = l.filter p ++ l.filter (fun a => !p a) := by
  induction l with
  | nil => rfl
  | cons a l ih =>
    unfold stableSort
    rw [ih]
    by_cases h : p a = true
    · rw [insert_ahead p a h, List.filter_cons_of_pos h, List.filter_cons_of_neg (by simp [h])]
      rfl
    · have h' : p a = false := by simpa using h
      rw [insert_behind p a h' _ _ (fun b hb => (List.mem_filter.1 hb).2) (fun b hb => by simpa using (List.mem_filter.1 hb).2),
        List.filter_cons_of_neg (by simp [h']), List.filter_cons_of_pos (by simp [h'])]
end

section
variable (P : ℕ → Prop) [DecidablePred P]

theorem length_filter (n : ℕ) : ((List.range n).filter fun i => decide (P i)).length = Nat.count P n := by
  induction n with
  | zero => simp
  | succ n ih => rw [List.range_succ, List.filter_append, List.length_append, ih, Nat.count_succ]; by_cases h : P n <;> simp [h]

theorem filter_at {n i : ℕ} (hi : i < n) (h : P i) : ((List.range n).filter fun i => decide (P i))[Nat.count P i]? = some i := by
  induction n with
  | zero => omega
  | succ n ih =>
    rw [List.range_succ, List.filter_append]
    by_cases e : i = n
    · subst e
      rw [List.getElem?_append_right (length_filter P i).le, length_filter, Nat.sub_self]
      simp [h]
    · have hi' : i < n := by omega
      rw [List.getElem?_append_left (by rw [length_filter]; exact count_lt P hi' h)]
      exact ih hi'

theorem count_rest (n : ℕ) : Nat.count (fun i => ¬P i) n = n - Nat.count P n := by
  induction n with
  | zero => simp
  | succ n ih =>
    have := Nat.count_le (p := P) (n := n)
    rw [Nat.count_succ, Nat.count_succ, ih]
    by_cases h : P n <;> simp [h] <;> omega

/-- The sort puts entry `i` at its rank. -/
theorem sorted_at {n i : ℕ} (hi : i < n) (r : Fin n) (hr : rank P n i = r) : (sortedFrom (ahead fun k : Fin n => decide (P k.val)) r).val = i := by
  have key : ((sortPositions n (ahead fun k : Fin n => decide (P k.val))).map Fin.val)[r.val]? = some i := by
    unfold sortPositions
    have hz := List.filter_map (f := Fin.val) (p := fun i => decide (P i)) (l := List.finRange n)
    have ho := List.filter_map (f := Fin.val) (p := fun i => decide ¬P i) (l := List.finRange n)
    rw [List.map_coe_finRange_eq_range] at hz ho
    rw [sorted_ahead, List.map_append]
    have ho' : ((List.finRange n).filter fun k => !decide (P k.val)).map Fin.val = (List.range n).filter fun i => decide ¬P i := by
      rw [ho]; congr 1; refine congrArg (fun q => (List.finRange n).filter q) (funext fun k => ?_); simp
    rw [ho', show ((List.finRange n).filter fun k => decide (P k.val)).map Fin.val = (List.range n).filter fun i => decide (P i) from hz.symm, ← hr]
    by_cases h : P i
    · rw [rank_of P h, List.getElem?_append_left (by rw [length_filter]; exact count_lt P hi h)]
      exact filter_at P hi h
    · rw [rank_not P h, List.getElem?_append_right (by rw [length_filter]; omega), length_filter, Nat.add_sub_cancel_left]
      have := filter_at (fun i => ¬P i) hi h
      rwa [count_rest] at this
  have hlen : r.val < (sortPositions n (ahead fun k : Fin n => decide (P k.val))).length := by rw [length_sortPositions]; exact r.isLt
  rw [List.getElem?_map, List.getElem?_eq_getElem hlen] at key
  exact Option.some.inj key
end

/-! ## The reference's rows -/

variable {α : Type}
variable (d : IVec S2048 32) (hd : ∀ i : Fin 2048, d (ix1 i) = 0#32 ∨ d (ix1 i) = 1#32)

/-- The order of the rows. -/
def order : IVec S2048 32 := (Host.sort2 S2048 0 comparator_i32_i32_d0 d (iotaInDim S2048 32 0)).2

include hd

theorem less_at (k l : Fin 2048) :
    (comparator_i32_i32_d0 (d (ix1 k), iotaInDim S2048 32 0 (ix1 k)) (d (ix1 l), iotaInDim S2048 32 0 (ix1 l)) == 1#1)
      = ahead (fun k : Fin 2048 => decide (zero d k.val)) k l := by
  have hz (i : Fin 2048) : decide (zero d i.val) = (d (ix1 i) == 0#32) := by
    by_cases h : d (ix1 i) = 0#32
    · rw [decide_eq_true (show zero d i.val from ⟨i.isLt, h⟩), h]; rfl
    · rw [decide_eq_false (show ¬zero d i.val from fun e => h e.2)]; exact (beq_eq_false_iff_ne.2 h).symm
  show _ = (decide (zero d k.val) && !decide (zero d l.val))
  rw [hz, hz]
  show (IntOp.cmpi .slt (d (ix1 k)) (d (ix1 l)) == 1#1) = _
  rcases hd k with a | a <;> rcases hd l with b | b <;> rw [a, b] <;> decide

theorem order_at {i : ℕ} (hi : i < 2048) (r : Fin 2048) (hr : rank (zero d) 2048 i = r) : order d (ix1 r) = w32 i := by
  have hal (k : Fin 2048) : (ix1 r : S2048.Idx).along (0 : Fin 1) k = ix1 k := by
    funext a
    obtain rfl : a = 0 := Subsingleton.elim _ _
    exact Function.update_self _ _ _
  have hs := sorted_at (zero d) hi r hr
  have hb : (fun k l : Fin 2048 => comparator_i32_i32_d0 (d ((ix1 r : S2048.Idx).along (0 : Fin 1) k), iotaInDim S2048 32 0 ((ix1 r : S2048.Idx).along (0 : Fin 1) k))
      (d ((ix1 r : S2048.Idx).along (0 : Fin 1) l), iotaInDim S2048 32 0 ((ix1 r : S2048.Idx).along (0 : Fin 1) l)) == 1#1)
      = ahead fun k : Fin 2048 => decide (zero d k.val) := by
    funext k l
    rw [hal k, hal l]
    exact less_at d hd k l
  refine (congrArg (fun b : Fin 2048 → Fin 2048 → Bool => iotaInDim S2048 32 0 ((ix1 r : S2048.Idx).along (0 : Fin 1) (sortedFrom b r))) hb).trans ?_
  refine (congrArg (iotaInDim S2048 32 0) (hal _)).trans ?_
  exact congrArg w32 hs

/-- Row `rank i` of the reference's result is row `i` of its argument. -/
theorem reference_at (x : S2048x512.Idx → α) {i : Fin 2048} (r : Fin 2048) (hr : rank (zero d) 2048 i = r) (j : Fin 512) :
    Host.gather gather_S2048x512_S2048x1_S2048x512_1_0_n_n_0_1_1512 x (broadcastInDim S2048x1 ![0] bcast_S2048_S2048x1_0
      (select (cmpi .slt (order d) (broadcastInDim S2048 ![] bcast_S_S2048 (constantI S_ 32 0#32)))
        (addi (order d) (broadcastInDim S2048 ![] bcast_S_S2048 (constantI S_ 32 2048#32))) (order d))) (ix2 r j) = x (ix2 i j) := by
  refine gather_row _ rfl rfl rfl rfl rfl _ _ r j i ?_ (by decide)
  refine (bcCol _ _ r).trans ?_
  have hi := i.isLt
  show Scalar.select (IntOp.cmpi .slt (order d (ix1 r)) (broadcastInDim S2048 ![] bcast_S_S2048 (constantI S_ 32 0#32) (ix1 r))) _ (order d (ix1 r)) = _
  rw [bc0, order_at d hd hi r hr]
  exact select_not (by rw [show constantI S_ 32 0#32 ix0 = 0#32 from rfl, slt_zero (by omega)]; decide) _ _

end Cert.Exchange
-- ==== Proof.Algebraic.lean ====
/- The kernel's result is the reference's: each device ends with its part of the rows in the stable order of their destinations. -/
module
public import proofs.«01_k».proof.Proof.Frames
public import proofs.«01_k».proof.Proof.Rows
public import proofs.«01_k».proof.Proof.Order

@[expose] public section

noncomputable section

namespace Cert.Exchange

open Idealize.ShloMosaic Idealize.ShloMosaic.TcCoe Idealize.SL.Sem
open Idealize.ShloMosaic.Routing Idealize.ShloMosaic.ValueIdx

section Places
open Cert.KernelIdeal

theorem base_le (c : Dev nD) (i : Fin 1024) : base c + i.val < 2048 := by have := i.isLt; unfold base; split <;> omega

theorem block_start : ∀ c : Dev nD, ((Layout.meshBlock (r := 2) [2, 2, 2] ![[0], []] c) 0).val * 1024 = base c := by decide

theorem block_at {α : Type} (c : Dev nD) (v : S2048x512.Idx → α) (i : Fin 1024) (j : Fin 512) :
    (Layout.blockN ⟨2, ![1024, 512]⟩ ⟨2, ![2048, 512]⟩ (Layout.meshBlock [2, 2, 2] ![[0], []] c) v) (ix2 i j) = v (ix2 ⟨base c + i.val, base_le c i⟩ j) := by
  rw [Layout.blockN_apply]
  refine congrArg v (funext fun a => Fin.ext ?_)
  rw [Layout.TilesN.idx_val]
  match a with
  | ⟨0, _⟩ => exact congrArg (· + i.val) (block_start c)
  | ⟨1, _⟩ => exact Nat.zero_add _

variable (d : IVec S2048 32)

theorem zeroAt_first {c : Dev nD} (h : c.val < 4) : zeroAt c d = zero d := by
  funext i; unfold zeroAt base; rw [if_pos h, Nat.zero_add]
theorem zeroAt_second {c : Dev nD} (h : ¬c.val < 4) : zeroAt c d = second (zero d) := by
  funext i; unfold zeroAt base second; rw [if_neg h]

theorem place_first {c : Dev nD} (h : c.val < 4) (i : ℕ) : place c d i = rank (zero d) 1024 i := by
  unfold place; congr 1; exact zeroAt_first d h
theorem place_second {c : Dev nD} (h : ¬c.val < 4) (i : ℕ) : place c d i = rank (second (zero d)) 1024 i := by
  unfold place; congr 1; exact zeroAt_second d h

theorem pr_side (c : Dev nD) : (pr c).val < 4 ↔ ¬c.val < 4 := by revert c; decide

/-- The place whose turned place is `r`. -/
theorem turn_back {z r : ℕ} (hz : z ≤ 1024) (hr : r < 1024) : ∃ q, q < 1024 ∧ turn 1024 z q = r
    ∧ q = if 1024 - z ≤ r then r - (1024 - z) else r + z := by
  refine ⟨_, ?_, ?_, rfl⟩
  · split <;> omega
  · unfold turn; split <;> split <;> omega

variable (even : Nat.count (zero d) 1024 + Nat.count (second (zero d)) 1024 = 1024)
include even

/-- A row the device keeps has, among all the rows, the place it has in the device's result. -/
theorem kept (c : Dev nD) {r i : ℕ} (hi : i < 1024) (h : own c (zeros c d) r) (hp : place c d i = r) : rank (zero d) 2048 (base c + i) = base c + r := by
  unfold own at h
  unfold base
  by_cases hc : c.val < 4
  · rw [if_pos hc] at h ⊢
    rw [place_first d hc] at hp
    rw [zeros_first hc, ← hp, rank_lt_iff _ hi] at h
    rw [Nat.zero_add, Nat.zero_add, rank_first _ even, if_pos h, hp]
  · rw [if_neg hc] at h ⊢
    rw [place_second d hc] at hp
    rw [zeros_second hc, ← hp, ← Nat.not_lt, rank_lt_iff _ hi] at h
    rw [rank_second _ even, if_neg h, hp]

/-- A row the partner sends has, among all the rows, the place it has in the device's result. -/
theorem moved (c : Dev nD) {r i : ℕ} (hr : r < 1024) (hi : i < 1024) (h : ¬own c (zeros c d) r)
    (hp : place (pr c) d i = if 1024 - zeros (pr c) d ≤ r then r - (1024 - zeros (pr c) d) else r + zeros (pr c) d) :
    rank (zero d) 2048 (base (pr c) + i) = base c + r := by
  unfold own at h
  unfold base
  by_cases hc : c.val < 4
  · have hq : ¬(pr c).val < 4 := fun e => (pr_side c).1 e hc
    rw [if_pos hc, zeros_first hc] at h
    rw [place_second d hq, zeros_second hq, if_pos (by omega)] at hp
    rw [if_pos hc, if_neg hq, rank_second _ even]
    have hz : second (zero d) i := by rw [← rank_lt_iff (second (zero d)) hi, hp]; omega
    rw [if_pos hz, hp]; omega
  · have hq : (pr c).val < 4 := (pr_side c).2 hc
    rw [if_neg hc, zeros_second hc] at h
    rw [place_first d hq, zeros_first hq, if_neg (by omega)] at hp
    rw [if_neg hc, if_pos hq, Nat.zero_add, rank_first _ even]
    have hz : ¬zero d i := by rw [← rank_lt_iff (zero d) hi, hp]; omega
    rw [if_neg hz, hp]; omega

end Places

section Value
open Cert.KernelIdeal Cert.KernelIdeal.Gen

variable {F : FTy → Type} [FloatOps F]
variable (m : (ℓ : Loc nD τ sig) → Buf (Elt F) ℓ)

/-- Each row of a device's result is the row of the whole array that has its place there. -/
theorem result_at {N : ℕ} (x : S2048x512.Idx → Elt F .f32) (d : IVec S2048 32) (hs : Spread N d)
    (hx : ∀ c : Dev nD, mat m c = Layout.blockN ⟨2, ![1024, 512]⟩ ⟨2, ![2048, 512]⟩ (Layout.meshBlock [2, 2, 2] ![[0], []] c) x)
    (hd : ∀ c : Dev nD, m ((c.tc : Thread nD τ).loc main_arg1) = d) (c : Dev nD) (r : Fin 1024) (j : Fin 512) :
    ∃ i : Fin 2048, rank (zero d) 2048 i = base c + r.val ∧ OUT (sorted (V11 m)) (fun c => zeros c (dests m c)) c (ix2 r j) = x (ix2 i j) := by
  by_cases h : own c (zeros c d) r.val
  · obtain ⟨i, hi, hp⟩ := rank_surj (zeroAt c d) r.isLt
    refine ⟨⟨base c + i, base_le c ⟨i, hi⟩⟩, kept d hs.even c hi h hp, ?_⟩
    refine (if_pos (by show own c (zeros c (m ((c.tc : Thread nD τ).loc main_arg1))) r.val; rw [hd]; exact h)).trans ?_
    refine (given_first c m (i := ⟨i, hi⟩) (p := r) j (by rw [hd c]; exact hp)).trans ?_
    rw [hx, block_at]
  · obtain ⟨q, hq, ht, e⟩ := turn_back (zeros_le (pr c) d) r.isLt
    obtain ⟨i, hi, hp⟩ := rank_surj (zeroAt (pr c) d) hq
    refine ⟨⟨base (pr c) + i, base_le (pr c) ⟨i, hi⟩⟩, moved d hs.even c r.isLt hi h (hp.trans e), ?_⟩
    refine (if_neg (by show ¬own c (zeros c (m ((c.tc : Thread nD τ).loc main_arg1))) r.val; rw [hd]; exact h)).trans ?_
    refine (given_second (pr c) m (i := ⟨i, hi⟩) (p := r) j (by rw [hd (pr c)]; exact (congrArg _ hp).trans ht)).trans ?_
    rw [hx, block_at]

end Value

section Claim
open Cert.KernelIdeal

/-- The reference's one device. -/
abbrev whole : Thread Cert.ReferenceIdeal.nD Cert.ReferenceIdeal.τ := (0 : Dev Cert.ReferenceIdeal.nD).tc

/-- Each device's result is its block of the reference's, where a predicate holds on every device. -/
theorem algebraic (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (w : BitVec 32) (h : ∀ c : Dev nD, asks w (dests m c) = fun _ => 1#1)
    (hag : ∀ c : Dev nD, m ((c.tc : Thread nD τ).loc main_arg0)
        = Layout.blockN ⟨2, ![1024, 512]⟩ ⟨2, ![2048, 512]⟩ (Layout.meshBlock [2, 2, 2] ![[0], []] c) (m' (whole.loc Cert.ReferenceIdeal.main_arg0))
      ∧ m ((c.tc : Thread nD τ).loc main_arg1) = m' (whole.loc Cert.ReferenceIdeal.main_arg1)) :
    ∃ v : Buf (Elt Ideal) (whole.loc Cert.ReferenceIdeal.main_v7),
      θ_run (defs (F := Ideal)) (onTc (τ := τ) main) ⟨m, fun _ => 0, g⟩ (fun r => ∀ c : Dev nD,
          r.2.mem ((c.tc : Thread nD τ).loc main_v54) = Layout.blockN ⟨2, ![1024, 512]⟩ ⟨2, ![2048, 512]⟩ (Layout.meshBlock [2, 2, 2] ![[0], []] c) v
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) Cert.ReferenceIdeal.main) ⟨m', fun _ => 0, g'⟩ (fun r =>
          r.2.mem (whole.loc Cert.ReferenceIdeal.main_v7) = v
          ∧ r.2.mem (whole.loc Cert.ReferenceIdeal.main_arg0) = m' (whole.loc Cert.ReferenceIdeal.main_arg0)
          ∧ r.2.mem (whole.loc Cert.ReferenceIdeal.main_arg1) = m' (whole.loc Cert.ReferenceIdeal.main_arg1)) := by
  have hs : Spread w.toNat (m' (whole.loc Cert.ReferenceIdeal.main_arg1)) := by
    rw [← (hag 0).2]; exact spread_of w _ (h 0)
  refine ⟨_, (θ_run Cert.KernelIdeal.defs _ _).mono (fun _ q c => ⟨(q.1 c).2.2.trans ?_, (q.1 c).1, (q.1 c).2.1⟩)
      (run_spread m g _ fun c => spread_of w _ (h c)),
    (θ_run Cert.ReferenceIdeal.defs _ _).mono (fun _ q => q 0) (Cert.ReferenceIdeal.Value.run m' g')⟩
  funext k
  obtain ⟨r, j, rfl⟩ : ∃ (r : Fin 1024) (j : Fin 512), k = ix2 r j := ⟨k 0, k 1, eq_ix2 k⟩
  obtain ⟨i, hi, e⟩ := result_at m _ _ hs (fun c => (hag c).1) (fun c => (hag c).2) c r j
  exact (e.trans (reference_at _ hs.bits _ ⟨base c + r.val, base_le c r⟩ hi j).symm).trans (block_at c _ r j).symm

end Claim

end Cert.Exchange
-- ==== Proof.lean ====
/- The certificate's claims, gathered. -/
module

public import proofs.«01_k».proof.Defs
public import proofs.«01_k».proof.Proof.Algebraic

@[expose] public section

noncomputable section

namespace Cert.Proof

open Cert.Exchange

theorem claim : Cert.Claim := by
  refine ⟨Cert.ReferenceIdeal.Gen.facts, Cert.Kernel.Gen.facts, Cert.KernelIdeal.Gen.facts, ?_⟩
  -- the shape conditions of the seventeen predicates, over the reference's arrays and over the kernel's
  iterate 34 refine ⟨by constructor <;> decide, ?_⟩
  refine ⟨fun m g _ => frame_reference m g, ?_⟩
  iterate 17 refine ⟨fun m g _ => frame_reference m g, ?_⟩
  iterate 17 refine ⟨fun m g h => frame_kernel m g _ h, ?_⟩
  iterate 17 refine ⟨fun m g h => frame_ideal m g _ h, ?_⟩
  refine ⟨trivial, ?_⟩
  iterate 16 refine ⟨fun m g m' g' h e => algebraic m g m' g' _ h e, ?_⟩
  exact fun m g m' g' h e => algebraic m g m' g' _ h e

end Cert.Proof

end
